-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v760) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x128x128 : Shape := ⟨4, ![2, 96, 128, 128]⟩
abbrev S2x96x64x64 : Shape := ⟨4, ![2, 96, 64, 64]⟩
abbrev S2x96x32x32 : Shape := ⟨4, ![2, 96, 32, 32]⟩
abbrev S2x96x16x16 : Shape := ⟨4, ![2, 96, 16, 16]⟩
abbrev S2x96x8x8 : Shape := ⟨4, ![2, 96, 8, 8]⟩
abbrev S96x96x3x3 : Shape := ⟨4, ![96, 96, 3, 3]⟩
abbrev S96 : Shape := ⟨1, ![96]⟩
abbrev S9x96x1x1 : Shape := ⟨4, ![9, 96, 1, 1]⟩
abbrev S9 : Shape := ⟨1, ![9]⟩
abbrev S36x96x1x1 : Shape := ⟨4, ![36, 96, 1, 1]⟩
abbrev S36 : Shape := ⟨1, ![36]⟩
abbrev S1x16384 : Shape := ⟨2, ![1, 16384]⟩
abbrev S2x9x1 : Shape := ⟨3, ![2, 9, 1]⟩
abbrev S1x6144 : Shape := ⟨2, ![1, 6144]⟩
abbrev S9x6144 : Shape := ⟨2, ![9, 6144]⟩
abbrev S3x3x96x96 : Shape := ⟨4, ![3, 3, 96, 96]⟩
abbrev S9x96x96 : Shape := ⟨3, ![9, 96, 96]⟩
abbrev S96x1 : Shape := ⟨2, ![96, 1]⟩
abbrev S36x96 : Shape := ⟨2, ![36, 96]⟩
abbrev S9x96 : Shape := ⟨2, ![9, 96]⟩
abbrev S1x9x96 : Shape := ⟨3, ![1, 9, 96]⟩
abbrev S4x9x96 : Shape := ⟨3, ![4, 9, 96]⟩
abbrev S1x9 : Shape := ⟨2, ![1, 9]⟩
abbrev S4x9 : Shape := ⟨2, ![4, 9]⟩
abbrev S4x9x1 : Shape := ⟨3, ![4, 9, 1]⟩
abbrev S2x96x16384 : Shape := ⟨3, ![2, 96, 16384]⟩
abbrev S_ : Shape := ⟨0, ![]⟩
abbrev S2x96x16640 : Shape := ⟨3, ![2, 96, 16640]⟩
abbrev S2x4x9x16384 : Shape := ⟨4, ![2, 4, 9, 16384]⟩
abbrev S1x96x16640 : Shape := ⟨3, ![1, 96, 16640]⟩
abbrev S1x2048 : Shape := ⟨2, ![1, 2048]⟩
abbrev S1x4x9x2048 : Shape := ⟨4, ![1, 4, 9, 2048]⟩
abbrev S1x96x2048 : Shape := ⟨3, ![1, 96, 2048]⟩
abbrev S96x2048 : Shape := ⟨2, ![96, 2048]⟩
abbrev S96x2047 : Shape := ⟨2, ![96, 2047]⟩
abbrev S1x96x96 : Shape := ⟨3, ![1, 96, 96]⟩
abbrev S96x96 : Shape := ⟨2, ![96, 96]⟩
abbrev S1x9x1 : Shape := ⟨3, ![1, 9, 1]⟩
abbrev S9x1 : Shape := ⟨2, ![9, 1]⟩
abbrev S9x2048 : Shape := ⟨2, ![9, 2048]⟩
abbrev S1x1x9x2048 : Shape := ⟨4, ![1, 1, 9, 2048]⟩
abbrev S2x96x4096 : Shape := ⟨3, ![2, 96, 4096]⟩
abbrev S2x96x4224 : Shape := ⟨3, ![2, 96, 4224]⟩
abbrev S2x96x1024 : Shape := ⟨3, ![2, 96, 1024]⟩
abbrev S2x96x1088 : Shape := ⟨3, ![2, 96, 1088]⟩
abbrev S2x96x256 : Shape := ⟨3, ![2, 96, 256]⟩
abbrev S2x96x288 : Shape := ⟨3, ![2, 96, 288]⟩
abbrev S2x96x64 : Shape := ⟨3, ![2, 96, 64]⟩
abbrev S2x96x80 : Shape := ⟨3, ![2, 96, 80]⟩
abbrev S2x96x5440 : Shape := ⟨3, ![2, 96, 5440]⟩
abbrev S2x96x6144 : Shape := ⟨3, ![2, 96, 6144]⟩
abbrev S1x2x96x6144 : Shape := ⟨4, ![1, 2, 96, 6144]⟩
abbrev S3x2x96x6144 : Shape := ⟨4, ![3, 2, 96, 6144]⟩
abbrev S2x4x9x6144 : Shape := ⟨4, ![2, 4, 9, 6144]⟩
abbrev S3x1x96x2048 : Shape := ⟨4, ![3, 1, 96, 2048]⟩
abbrev S1x1x96x2048 : Shape := ⟨4, ![1, 1, 96, 2048]⟩
abbrev S2x16384x9x4 : Shape := ⟨4, ![2, 16384, 9, 4]⟩
abbrev S2x147456x4 : Shape := ⟨3, ![2, 147456, 4]⟩
abbrev S2x4x9x5440 : Shape := ⟨4, ![2, 4, 9, 5440]⟩
abbrev S2x5440x9x4 : Shape := ⟨4, ![2, 5440, 9, 4]⟩
abbrev S2x48960x4 : Shape := ⟨3, ![2, 48960, 4]⟩
abbrev S2x196416x4 : Shape := ⟨3, ![2, 196416, 4]⟩

abbrev nBuf : Space → Nat
  | .hbm => 106
  | .vmem => 37
  | .smem => 0
  | _ => 0

abbrev bufTy : (tb : Table) → Fin (tcTables nBuf tb) → BufTy
  | .hbm, ⟨0, _⟩ => ⟨S2x96x128x128, .f32⟩
  | .hbm, ⟨1, _⟩ => ⟨S2x96x64x64, .f32⟩
  | .hbm, ⟨2, _⟩ => ⟨S2x96x32x32, .f32⟩
  | .hbm, ⟨3, _⟩ => ⟨S2x96x16x16, .f32⟩
  | .hbm, ⟨4, _⟩ => ⟨S2x96x8x8, .f32⟩
  | .hbm, ⟨5, _⟩ => ⟨S96x96x3x3, .f32⟩
  | .hbm, ⟨6, _⟩ => ⟨S96, .f32⟩
  | .hbm, ⟨7, _⟩ => ⟨S9x96x1x1, .f32⟩
  | .hbm, ⟨8, _⟩ => ⟨S9, .f32⟩
  | .hbm, ⟨9, _⟩ => ⟨S36x96x1x1, .f32⟩
  | .hbm, ⟨10, _⟩ => ⟨S36, .f32⟩
  | .hbm, ⟨11, _⟩ => ⟨S1x16384, .bf16⟩
  | .hbm, ⟨12, _⟩ => ⟨S1x16384, .bf16⟩
  | .hbm, ⟨13, _⟩ => ⟨S1x16384, .f32⟩
  | .hbm, ⟨14, _⟩ => ⟨S1x16384, .f32⟩
  | .hbm, ⟨15, _⟩ => ⟨S2x9x1, .f32⟩
  | .hbm, ⟨16, _⟩ => ⟨S1x6144, .bf16⟩
  | .hbm, ⟨17, _⟩ => ⟨S1x6144, .bf16⟩
  | .hbm, ⟨18, _⟩ => ⟨S1x6144, .f32⟩
  | .hbm, ⟨19, _⟩ => ⟨S1x6144, .f32⟩
  | .hbm, ⟨20, _⟩ => ⟨S9x6144, .f32⟩
  | .hbm, ⟨21, _⟩ => ⟨S9x6144, .f32⟩
  | .hbm, ⟨22, _⟩ => ⟨S3x3x96x96, .f32⟩
  | .hbm, ⟨23, _⟩ => ⟨S9x96x96, .f32⟩
  | .hbm, ⟨24, _⟩ => ⟨S9x96x96, .bf16⟩
  | .hbm, ⟨25, _⟩ => ⟨S96x1, .f32⟩
  | .hbm, ⟨26, _⟩ => ⟨S36x96, .f32⟩
  | .hbm, ⟨27, _⟩ => ⟨S9x96, .f32⟩
  | .hbm, ⟨28, _⟩ => ⟨S9x96, .f32⟩
  | .hbm, ⟨29, _⟩ => ⟨S9x96, .f32⟩
  | .hbm, ⟨30, _⟩ => ⟨S9x96, .f32⟩
  | .hbm, ⟨31, _⟩ => ⟨S1x9x96, .f32⟩
  | .hbm, ⟨32, _⟩ => ⟨S1x9x96, .f32⟩
  | .hbm, ⟨33, _⟩ => ⟨S1x9x96, .f32⟩
  | .hbm, ⟨34, _⟩ => ⟨S1x9x96, .f32⟩
  | .hbm, ⟨35, _⟩ => ⟨S4x9x96, .f32⟩
  | .hbm, ⟨36, _⟩ => ⟨S4x9x96, .bf16⟩
  | .hbm, ⟨37, _⟩ => ⟨S9, .f32⟩
  | .hbm, ⟨38, _⟩ => ⟨S9, .f32⟩
  | .hbm, ⟨39, _⟩ => ⟨S9, .f32⟩
  | .hbm, ⟨40, _⟩ => ⟨S9, .f32⟩
  | .hbm, ⟨41, _⟩ => ⟨S1x9, .f32⟩
  | .hbm, ⟨42, _⟩ => ⟨S1x9, .f32⟩
  | .hbm, ⟨43, _⟩ => ⟨S1x9, .f32⟩
  | .hbm, ⟨44, _⟩ => ⟨S1x9, .f32⟩
  | .hbm, ⟨45, _⟩ => ⟨S4x9, .f32⟩
  | .hbm, ⟨46, _⟩ => ⟨S4x9x1, .f32⟩
  | .hbm, ⟨47, _⟩ => ⟨S2x96x16384, .f32⟩
  | .hbm, ⟨48, _⟩ => ⟨S_, .i32⟩
  | .hbm, ⟨49, _⟩ => ⟨S_, .f32⟩
  | .hbm, ⟨50, _⟩ => ⟨S2x96x16640, .f32⟩
  | .hbm, ⟨51, _⟩ => ⟨S2x4x9x16384, .bf16⟩
  | .hbm, ⟨52, _⟩ => ⟨S2x96x4096, .f32⟩
  | .hbm, ⟨53, _⟩ => ⟨S_, .i32⟩
  | .hbm, ⟨54, _⟩ => ⟨S_, .f32⟩
  | .hbm, ⟨55, _⟩ => ⟨S2x96x4224, .f32⟩
  | .hbm, ⟨56, _⟩ => ⟨S2x96x4096, .f32⟩
  | .hbm, ⟨57, _⟩ => ⟨S2x96x4096, .f32⟩
  | .hbm, ⟨58, _⟩ => ⟨S2x96x4096, .f32⟩
  | .hbm, ⟨59, _⟩ => ⟨S2x96x1024, .f32⟩
  | .hbm, ⟨60, _⟩ => ⟨S_, .i32⟩
  | .hbm, ⟨61, _⟩ => ⟨S_, .f32⟩
  | .hbm, ⟨62, _⟩ => ⟨S2x96x1088, .f32⟩
  | .hbm, ⟨63, _⟩ => ⟨S2x96x1024, .f32⟩
  | .hbm, ⟨64, _⟩ => ⟨S2x96x1024, .f32⟩
  | .hbm, ⟨65, _⟩ => ⟨S2x96x1024, .f32⟩
  | .hbm, ⟨66, _⟩ => ⟨S2x96x256, .f32⟩
  | .hbm, ⟨67, _⟩ => ⟨S_, .i32⟩
  | .hbm, ⟨68, _⟩ => ⟨S_, .f32⟩
  | .hbm, ⟨69, _⟩ => ⟨S2x96x288, .f32⟩
  | .hbm, ⟨70, _⟩ => ⟨S2x96x256, .f32⟩
  | .hbm, ⟨71, _⟩ => ⟨S2x96x256, .f32⟩
  | .hbm, ⟨72, _⟩ => ⟨S2x96x256, .f32⟩
  | .hbm, ⟨73, _⟩ => ⟨S2x96x64, .f32⟩
  | .hbm, ⟨74, _⟩ => ⟨S_, .i32⟩
  | .hbm, ⟨75, _⟩ => ⟨S_, .f32⟩
  | .hbm, ⟨76, _⟩ => ⟨S2x96x80, .f32⟩
  | .hbm, ⟨77, _⟩ => ⟨S2x96x64, .f32⟩
  | .hbm, ⟨78, _⟩ => ⟨S2x96x64, .f32⟩
  | .hbm, ⟨79, _⟩ => ⟨S2x96x64, .f32⟩
  | .hbm, ⟨80, _⟩ => ⟨S2x96x5440, .f32⟩
  | .hbm, ⟨81, _⟩ => ⟨S_, .i32⟩
  | .hbm, ⟨82, _⟩ => ⟨S_, .f32⟩
  | .hbm, ⟨83, _⟩ => ⟨S2x96x6144, .f32⟩
  | .hbm, ⟨84, _⟩ => ⟨S2x96x5440, .f32⟩
  | .hbm, ⟨85, _⟩ => ⟨S_, .i32⟩
  | .hbm, ⟨86, _⟩ => ⟨S_, .f32⟩
  | .hbm, ⟨87, _⟩ => ⟨S2x96x6144, .f32⟩
  | .hbm, ⟨88, _⟩ => ⟨S2x96x5440, .f32⟩
  | .hbm, ⟨89, _⟩ => ⟨S_, .i32⟩
  | .hbm, ⟨90, _⟩ => ⟨S_, .f32⟩
  | .hbm, ⟨91, _⟩ => ⟨S2x96x6144, .f32⟩
  | .hbm, ⟨92, _⟩ => ⟨S1x2x96x6144, .f32⟩
  | .hbm, ⟨93, _⟩ => ⟨S1x2x96x6144, .f32⟩
  | .hbm, ⟨94, _⟩ => ⟨S1x2x96x6144, .f32⟩
  | .hbm, ⟨95, _⟩ => ⟨S3x2x96x6144, .f32⟩
  | .hbm, ⟨96, _⟩ => ⟨S3x2x96x6144, .bf16⟩
  | .hbm, ⟨97, _⟩ => ⟨S2x4x9x6144, .bf16⟩
  | .hbm, ⟨98, _⟩ => ⟨S2x16384x9x4, .bf16⟩
  | .hbm, ⟨99, _⟩ => ⟨S2x16384x9x4, .f32⟩
  | .hbm, ⟨100, _⟩ => ⟨S2x147456x4, .f32⟩
  | .hbm, ⟨101, _⟩ => ⟨S2x4x9x5440, .bf16⟩
  | .hbm, ⟨102, _⟩ => ⟨S2x5440x9x4, .bf16⟩
  | .hbm, ⟨103, _⟩ => ⟨S2x5440x9x4, .f32⟩
  | .hbm, ⟨104, _⟩ => ⟨S2x48960x4, .f32⟩
  | .hbm, ⟨105, _⟩ => ⟨S2x196416x4, .f32⟩
  | .local _ .vmem, ⟨0, _⟩ => ⟨S1x96x16640, .f32⟩
  | .local _ .vmem, ⟨1, _⟩ => ⟨S1x96x16640, .f32⟩
  | .local _ .vmem, ⟨2, _⟩ => ⟨S9x96x96, .bf16⟩
  | .local _ .vmem, ⟨3, _⟩ => ⟨S96x1, .f32⟩
  | .local _ .vmem, ⟨4, _⟩ => ⟨S4x9x96, .bf16⟩
  | .local _ .vmem, ⟨5, _⟩ => ⟨S4x9x1, .f32⟩
  | .local _ .vmem, ⟨6, _⟩ => ⟨S2x9x1, .f32⟩
  | .local _ .vmem, ⟨7, _⟩ => ⟨S1x2048, .bf16⟩
  | .local _ .vmem, ⟨8, _⟩ => ⟨S1x2048, .bf16⟩
  | .local _ .vmem, ⟨9, _⟩ => ⟨S1x2048, .bf16⟩
  | .local _ .vmem, ⟨10, _⟩ => ⟨S1x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x4x9x2048, .bf16⟩
  | .local _ .vmem, ⟨16, _⟩ => ⟨S1x4x9x2048, .bf16⟩
  | .local _ .vmem, ⟨17, _⟩ => ⟨S3x1x96x2048, .bf16⟩
  | .local _ .vmem, ⟨18, _⟩ => ⟨S3x1x96x2048, .bf16⟩
  | .local _ .vmem, ⟨19, _⟩ => ⟨S9x96x96, .bf16⟩
  | .local _ .vmem, ⟨20, _⟩ => ⟨S96x1, .f32⟩
  | .local _ .vmem, ⟨21, _⟩ => ⟨S4x9x96, .bf16⟩
  | .local _ .vmem, ⟨22, _⟩ => ⟨S4x9x1, .f32⟩
  | .local _ .vmem, ⟨23, _⟩ => ⟨S1x2048, .bf16⟩
  | .local _ .vmem, ⟨24, _⟩ => ⟨S1x2048, .bf16⟩
  | .local _ .vmem, ⟨25, _⟩ => ⟨S1x2048, .bf16⟩
  | .local _ .vmem, ⟨26, _⟩ => ⟨S1x2048, .bf16⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S9x2048, .f32⟩
  | .local _ .vmem, ⟨32, _⟩ => ⟨S9x2048, .f32⟩
  | .local _ .vmem, ⟨33, _⟩ => ⟨S9x2048, .f32⟩
  | .local _ .vmem, ⟨34, _⟩ => ⟨S9x2048, .f32⟩
  | .local _ .vmem, ⟨35, _⟩ => ⟨S1x4x9x2048, .bf16⟩
  | .local _ .vmem, ⟨36, _⟩ => ⟨S1x4x9x2048, .bf16⟩
  | _, _ => ⟨S2x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_cst_4 : Ref sig .tc := ⟨.hbm, 16, rfl⟩
abbrev main_cst_5 : Ref sig .tc := ⟨.hbm, 17, rfl⟩
abbrev main_cst_6 : Ref sig .tc := ⟨.hbm, 18, rfl⟩
abbrev main_cst_7 : Ref sig .tc := ⟨.hbm, 19, rfl⟩
abbrev main_cst_8 : Ref sig .tc := ⟨.hbm, 20, rfl⟩
abbrev main_cst_9 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_10 : Ref sig .tc := ⟨.hbm, 53, rfl⟩
abbrev main_call1_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_11 : Ref sig .tc := ⟨.hbm, 60, rfl⟩
abbrev main_call2_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_call3_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_13 : Ref sig .tc := ⟨.hbm, 74, rfl⟩
abbrev main_call4_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_call5_v0 : Ref sig .tc := ⟨.hbm, 82, rfl⟩
abbrev main_v49 : Ref sig .tc := ⟨.hbm, 83, rfl⟩
abbrev main_v50 : Ref sig .tc := ⟨.hbm, 84, rfl⟩
abbrev main_c_15 : Ref sig .tc := ⟨.hbm, 85, rfl⟩
abbrev main_call6_v0 : Ref sig .tc := ⟨.hbm, 86, rfl⟩
abbrev main_v51 : Ref sig .tc := ⟨.hbm, 87, rfl⟩
abbrev main_v52 : Ref sig .tc := ⟨.hbm, 88, rfl⟩
abbrev main_c_16 : Ref sig .tc := ⟨.hbm, 89, rfl⟩
abbrev main_call7_v0 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) (c0_i32 : BitVec 32) : Fin 3 → Nat :=
  let c0 : Index := 0#32
  let c0_0 : Index := 0#32
  let arg1 : BitVec 32 := BitVec.ofNat 32 (i 1).val
  let c2048_i32 : BitVec 32 := 2048#32
  let v0 : BitVec 32 := Scalar.muli arg1 c2048_i32
  let v1 : BitVec 32 := v0
  let v2 : BitVec 32 := Scalar.addi v1 c0_i32
  let v3 : Index := Scalar.indexCast v2
  ![0, 0, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x96x16640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x96x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x9x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x9x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x9x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x9x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 3], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S3x1x96x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S9x96x96 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S96x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4x9x96 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4x9x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S9x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S9x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 2 → Memref sig .tc .vmem S1x4x9x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== ReferenceIdeal.lean ====
abbrev S2x96x128x128 : Shape := ⟨4, ![2, 96, 128, 128]⟩
abbrev S2x96x64x64 : Shape := ⟨4, ![2, 96, 64, 64]⟩
abbrev S2x96x32x32 : Shape := ⟨4, ![2, 96, 32, 32]⟩
abbrev S2x96x16x16 : Shape := ⟨4, ![2, 96, 16, 16]⟩
abbrev S2x96x8x8 : Shape := ⟨4, ![2, 96, 8, 8]⟩
abbrev S96x96x3x3 : Shape := ⟨4, ![96, 96, 3, 3]⟩
abbrev S96 : Shape := ⟨1, ![96]⟩
abbrev S9x96x1x1 : Shape := ⟨4, ![9, 96, 1, 1]⟩
abbrev S9 : Shape := ⟨1, ![9]⟩
abbrev S36x96x1x1 : Shape := ⟨4, ![36, 96, 1, 1]⟩
abbrev S36 : Shape := ⟨1, ![36]⟩
abbrev S9x4 : Shape := ⟨2, ![9, 4]⟩
abbrev S_ : Shape := ⟨0, ![]⟩
abbrev S2x96x130x130 : Shape := ⟨4, ![2, 96, 130, 130]⟩
abbrev S96x96x1x1 : Shape := ⟨4, ![96, 96, 1, 1]⟩
abbrev S96x96 : Shape := ⟨2, ![96, 96]⟩
abbrev S2x128x128x96 : Shape := ⟨4, ![2, 128, 128, 96]⟩
abbrev S1x96x1x1 : Shape := ⟨4, ![1, 96, 1, 1]⟩
abbrev S36x96 : Shape := ⟨2, ![36, 96]⟩
abbrev S2x128x128x36 : Shape := ⟨4, ![2, 128, 128, 36]⟩
abbrev S2x36x128x128 : Shape := ⟨4, ![2, 36, 128, 128]⟩
abbrev S1x36x1x1 : Shape := ⟨4, ![1, 36, 1, 1]⟩
abbrev S2x9x4x128x128 : Shape := ⟨5, ![2, 9, 4, 128, 128]⟩
abbrev S2x128x128x9x4 : Shape := ⟨5, ![2, 128, 128, 9, 4]⟩
abbrev S2x147456x4 : Shape := ⟨3, ![2, 147456, 4]⟩
abbrev S128x128 : Shape := ⟨2, ![128, 128]⟩
abbrev S128x128x1 : Shape := ⟨3, ![128, 128, 1]⟩
abbrev S128x128x4 : Shape := ⟨3, ![128, 128, 4]⟩
abbrev S128x128x1x4 : Shape := ⟨4, ![128, 128, 1, 4]⟩
abbrev S1x1x9x4 : Shape := ⟨4, ![1, 1, 9, 4]⟩
abbrev S128x128x9x4 : Shape := ⟨4, ![128, 128, 9, 4]⟩
abbrev S147456x4 : Shape := ⟨2, ![147456, 4]⟩
abbrev S1x147456x4 : Shape := ⟨3, ![1, 147456, 4]⟩
abbrev S2x147456x1 : Shape := ⟨3, ![2, 147456, 1]⟩
abbrev S2x147456 : Shape := ⟨2, ![2, 147456]⟩
abbrev S2x96x66x66 : Shape := ⟨4, ![2, 96, 66, 66]⟩
abbrev S2x64x64x96 : Shape := ⟨4, ![2, 64, 64, 96]⟩
abbrev S2x64x64x36 : Shape := ⟨4, ![2, 64, 64, 36]⟩
abbrev S2x36x64x64 : Shape := ⟨4, ![2, 36, 64, 64]⟩
abbrev S2x9x4x64x64 : Shape := ⟨5, ![2, 9, 4, 64, 64]⟩
abbrev S2x64x64x9x4 : Shape := ⟨5, ![2, 64, 64, 9, 4]⟩
abbrev S2x36864x4 : Shape := ⟨3, ![2, 36864, 4]⟩
abbrev S64x64 : Shape := ⟨2, ![64, 64]⟩
abbrev S64x64x1 : Shape := ⟨3, ![64, 64, 1]⟩
abbrev S64x64x4 : Shape := ⟨3, ![64, 64, 4]⟩
abbrev S64x64x1x4 : Shape := ⟨4, ![64, 64, 1, 4]⟩
abbrev S64x64x9x4 : Shape := ⟨4, ![64, 64, 9, 4]⟩
abbrev S36864x4 : Shape := ⟨2, ![36864, 4]⟩
abbrev S1x36864x4 : Shape := ⟨3, ![1, 36864, 4]⟩
abbrev S2x36864x1 : Shape := ⟨3, ![2, 36864, 1]⟩
abbrev S2x36864 : Shape := ⟨2, ![2, 36864]⟩
abbrev S2x96x34x34 : Shape := ⟨4, ![2, 96, 34, 34]⟩
abbrev S2x32x32x96 : Shape := ⟨4, ![2, 32, 32, 96]⟩
abbrev S2x32x32x36 : Shape := ⟨4, ![2, 32, 32, 36]⟩
abbrev S2x36x32x32 : Shape := ⟨4, ![2, 36, 32, 32]⟩
abbrev S2x9x4x32x32 : Shape := ⟨5, ![2, 9, 4, 32, 32]⟩
abbrev S2x32x32x9x4 : Shape := ⟨5, ![2, 32, 32, 9, 4]⟩
abbrev S2x9216x4 : Shape := ⟨3, ![2, 9216, 4]⟩
abbrev S32x32 : Shape := ⟨2, ![32, 32]⟩
abbrev S32x32x1 : Shape := ⟨3, ![32, 32, 1]⟩
abbrev S32x32x4 : Shape := ⟨3, ![32, 32, 4]⟩
abbrev S32x32x1x4 : Shape := ⟨4, ![32, 32, 1, 4]⟩
abbrev S32x32x9x4 : Shape := ⟨4, ![32, 32, 9, 4]⟩
abbrev S9216x4 : Shape := ⟨2, ![9216, 4]⟩
abbrev S1x9216x4 : Shape := ⟨3, ![1, 9216, 4]⟩
abbrev S2x9216x1 : Shape := ⟨3, ![2, 9216, 1]⟩
abbrev S2x9216 : Shape := ⟨2, ![2, 9216]⟩
abbrev S2x96x18x18 : Shape := ⟨4, ![2, 96, 18, 18]⟩
abbrev S2x16x16x96 : Shape := ⟨4, ![2, 16, 16, 96]⟩
abbrev S2x16x16x36 : Shape := ⟨4, ![2, 16, 16, 36]⟩
abbrev S2x36x16x16 : Shape := ⟨4, ![2, 36, 16, 16]⟩
abbrev S2x9x4x16x16 : Shape := ⟨5, ![2, 9, 4, 16, 16]⟩
abbrev S2x16x16x9x4 : Shape := ⟨5, ![2, 16, 16, 9, 4]⟩
abbrev S2x2304x4 : Shape := ⟨3, ![2, 2304, 4]⟩
abbrev S16x16 : Shape := ⟨2, ![16, 16]⟩
abbrev S16x16x1 : Shape := ⟨3, ![16, 16, 1]⟩
abbrev S16x16x4 : Shape := ⟨3, ![16, 16, 4]⟩
abbrev S16x16x1x4 : Shape := ⟨4, ![16, 16, 1, 4]⟩
abbrev S16x16x9x4 : Shape := ⟨4, ![16, 16, 9, 4]⟩
abbrev S2304x4 : Shape := ⟨2, ![2304, 4]⟩
abbrev S1x2304x4 : Shape := ⟨3, ![1, 2304, 4]⟩
abbrev S2x2304x1 : Shape := ⟨3, ![2, 2304, 1]⟩
abbrev S2x2304 : Shape := ⟨2, ![2, 2304]⟩
abbrev S2x96x10x10 : Shape := ⟨4, ![2, 96, 10, 10]⟩
abbrev S2x8x8x96 : Shape := ⟨4, ![2, 8, 8, 96]⟩
abbrev S2x8x8x36 : Shape := ⟨4, ![2, 8, 8, 36]⟩
abbrev S2x36x8x8 : Shape := ⟨4, ![2, 36, 8, 8]⟩
abbrev S2x9x4x8x8 : Shape := ⟨5, ![2, 9, 4, 8, 8]⟩
abbrev S2x8x8x9x4 : Shape := ⟨5, ![2, 8, 8, 9, 4]⟩
abbrev S2x576x4 : Shape := ⟨3, ![2, 576, 4]⟩
abbrev S8x8 : Shape := ⟨2, ![8, 8]⟩
abbrev S8x8x1 : Shape := ⟨3, ![8, 8, 1]⟩
abbrev S8x8x4 : Shape := ⟨3, ![8, 8, 4]⟩
abbrev S8x8x1x4 : Shape := ⟨4, ![8, 8, 1, 4]⟩
abbrev S8x8x9x4 : Shape := ⟨4, ![8, 8, 9, 4]⟩
abbrev S576x4 : Shape := ⟨2, ![576, 4]⟩
abbrev S1x576x4 : Shape := ⟨3, ![1, 576, 4]⟩
abbrev S2x576x1 : Shape := ⟨3, ![2, 576, 1]⟩
abbrev S2x576 : Shape := ⟨2, ![2, 576]⟩
abbrev S2x196416x4 : Shape := ⟨3, ![2, 196416, 4]⟩

abbrev nBuf : Space → Nat
  | .hbm => 852
  | .vmem => 0
  | .smem => 0
  | _ => 0

abbrev hbmTy0_0 (i : Nat) : BufTy := match i % 128 with
  | 0 => ⟨S2x96x128x128, .f32⟩
  | 1 => ⟨S2x96x64x64, .f32⟩
  | 2 => ⟨S2x96x32x32, .f32⟩
  | 3 => ⟨S2x96x16x16, .f32⟩
  | 4 => ⟨S2x96x8x8, .f32⟩
  | 5 => ⟨S96x96x3x3, .f32⟩
  | 6 => ⟨S96, .f32⟩
  | 7 => ⟨S9x96x1x1, .f32⟩
  | 8 => ⟨S9, .f32⟩
  | 9 => ⟨S36x96x1x1, .f32⟩
  | 10 => ⟨S36, .f32⟩
  | 11 => ⟨S9x4, .f32⟩
  | 12 => ⟨S9x4, .f32⟩
  | 13 => ⟨S9x4, .f32⟩
  | 14 => ⟨S9x4, .f32⟩
  | 15 => ⟨S9x4, .f32⟩
  | 16 => ⟨S_, .f32⟩
  | 17 => ⟨S2x96x130x130, .f32⟩
  | 18 => ⟨S_, .f32⟩
  | 19 => ⟨S2x96x128x128, .f32⟩
  | 20 => ⟨S2x96x128x128, .f32⟩
  | 21 => ⟨S96x96x1x1, .f32⟩
  | 22 => ⟨S96x96, .f32⟩
  | 23 => ⟨S2x128x128x96, .f32⟩
  | 24 => ⟨S2x96x128x128, .f32⟩
  | 25 => ⟨S2x96x128x128, .f32⟩
  | 26 => ⟨S2x96x128x128, .f32⟩
  | 27 => ⟨S96x96x1x1, .f32⟩
  | 28 => ⟨S96x96, .f32⟩
  | 29 => ⟨S2x128x128x96, .f32⟩
  | 30 => ⟨S2x96x128x128, .f32⟩
  | 31 => ⟨S2x96x128x128, .f32⟩
  | 32 => ⟨S2x96x128x128, .f32⟩
  | 33 => ⟨S96x96x1x1, .f32⟩
  | 34 => ⟨S96x96, .f32⟩
  | 35 => ⟨S2x128x128x96, .f32⟩
  | 36 => ⟨S2x96x128x128, .f32⟩
  | 37 => ⟨S2x96x128x128, .f32⟩
  | 38 => ⟨S2x96x128x128, .f32⟩
  | 39 => ⟨S96x96x1x1, .f32⟩
  | 40 => ⟨S96x96, .f32⟩
  | 41 => ⟨S2x128x128x96, .f32⟩
  | 42 => ⟨S2x96x128x128, .f32⟩
  | 43 => ⟨S2x96x128x128, .f32⟩
  | 44 => ⟨S2x96x128x128, .f32⟩
  | 45 => ⟨S96x96x1x1, .f32⟩
  | 46 => ⟨S96x96, .f32⟩
  | 47 => ⟨S2x128x128x96, .f32⟩
  | 48 => ⟨S2x96x128x128, .f32⟩
  | 49 => ⟨S2x96x128x128, .f32⟩
  | 50 => ⟨S2x96x128x128, .f32⟩
  | 51 => ⟨S96x96x1x1, .f32⟩
  | 52 => ⟨S96x96, .f32⟩
  | 53 => ⟨S2x128x128x96, .f32⟩
  | 54 => ⟨S2x96x128x128, .f32⟩
  | 55 => ⟨S2x96x128x128, .f32⟩
  | 56 => ⟨S2x96x128x128, .f32⟩
  | 57 => ⟨S96x96x1x1, .f32⟩
  | 58 => ⟨S96x96, .f32⟩
  | 59 => ⟨S2x128x128x96, .f32⟩
  | 60 => ⟨S2x96x128x128, .f32⟩
  | 61 => ⟨S2x96x128x128, .f32⟩
  | 62 => ⟨S2x96x128x128, .f32⟩
  | 63 => ⟨S96x96x1x1, .f32⟩
  | 64 => ⟨S96x96, .f32⟩
  | 65 => ⟨S2x128x128x96, .f32⟩
  | 66 => ⟨S2x96x128x128, .f32⟩
  | 67 => ⟨S2x96x128x128, .f32⟩
  | 68 => ⟨S2x96x128x128, .f32⟩
  | 69 => ⟨S96x96x1x1, .f32⟩
  | 70 => ⟨S96x96, .f32⟩
  | 71 => ⟨S2x128x128x96, .f32⟩
  | 72 => ⟨S2x96x128x128, .f32⟩
  | 73 => ⟨S2x96x128x128, .f32⟩
  | 74 => ⟨S1x96x1x1, .f32⟩
  | 75 => ⟨S2x96x128x128, .f32⟩
  | 76 => ⟨S2x96x128x128, .f32⟩
  | 77 => ⟨S_, .f32⟩
  | 78 => ⟨S2x96x128x128, .f32⟩
  | 79 => ⟨S2x96x128x128, .f32⟩
  | 80 => ⟨S36x96, .f32⟩
  | 81 => ⟨S2x128x128x36, .f32⟩
  | 82 => ⟨S2x36x128x128, .f32⟩
  | 83 => ⟨S1x36x1x1, .f32⟩
  | 84 => ⟨S2x36x128x128, .f32⟩
  | 85 => ⟨S2x36x128x128, .f32⟩
  | 86 => ⟨S2x9x4x128x128, .f32⟩
  | 87 => ⟨S2x128x128x9x4, .f32⟩
  | 88 => ⟨S2x147456x4, .f32⟩
  | 89 => ⟨S128x128, .i32⟩
  | 90 => ⟨S128x128, .f32⟩
  | 91 => ⟨S_, .f32⟩
  | 92 => ⟨S128x128, .f32⟩
  | 93 => ⟨S128x128, .f32⟩
  | 94 => ⟨S128x128, .i32⟩
  | 95 => ⟨S128x128, .f32⟩
  | 96 => ⟨S_, .f32⟩
  | 97 => ⟨S128x128, .f32⟩
  | 98 => ⟨S128x128, .f32⟩
  | 99 => ⟨S128x128x1, .f32⟩
  | 100 => ⟨S128x128x1, .f32⟩
  | 101 => ⟨S128x128x1, .f32⟩
  | 102 => ⟨S128x128x1, .f32⟩
  | 103 => ⟨S128x128x4, .f32⟩
  | 104 => ⟨S128x128x1x4, .f32⟩
  | 105 => ⟨S1x1x9x4, .f32⟩
  | 106 => ⟨S128x128x9x4, .f32⟩
  | 107 => ⟨S128x128x9x4, .f32⟩
  | 108 => ⟨S128x128x9x4, .f32⟩
  | 109 => ⟨S147456x4, .f32⟩
  | 110 => ⟨S1x147456x4, .f32⟩
  | 111 => ⟨S2x147456x4, .f32⟩
  | 112 => ⟨S2x147456x1, .f32⟩
  | 113 => ⟨S2x147456, .f32⟩
  | 114 => ⟨S2x147456x1, .f32⟩
  | 115 => ⟨S2x147456, .f32⟩
  | 116 => ⟨S2x147456, .f32⟩
  | 117 => ⟨S2x147456x1, .f32⟩
  | 118 => ⟨S2x147456, .f32⟩
  | 119 => ⟨S2x147456x1, .f32⟩
  | 120 => ⟨S2x147456, .f32⟩
  | 121 => ⟨S2x147456, .f32⟩
  | 122 => ⟨S2x147456x1, .f32⟩
  | 123 => ⟨S2x147456, .f32⟩
  | 124 => ⟨S_, .f32⟩
  | 125 => ⟨S2x147456, .f32⟩
  | 126 => ⟨S2x147456, .f32⟩
  | 127 => ⟨S2x147456, .f32⟩
  | _ => ⟨S2x96x128x128, .f32⟩

abbrev hbmTy0_1 (i : Nat) : BufTy := match i % 128 with
  | 0 => ⟨S2x147456x1, .f32⟩
  | 1 => ⟨S2x147456, .f32⟩
  | 2 => ⟨S_, .f32⟩
  | 3 => ⟨S2x147456, .f32⟩
  | 4 => ⟨S2x147456, .f32⟩
  | 5 => ⟨S2x147456, .f32⟩
  | 6 => ⟨S2x147456x1, .f32⟩
  | 7 => ⟨S2x147456, .f32⟩
  | 8 => ⟨S2x147456x1, .f32⟩
  | 9 => ⟨S2x147456, .f32⟩
  | 10 => ⟨S2x147456x1, .f32⟩
  | 11 => ⟨S2x147456, .f32⟩
  | 12 => ⟨S2x147456x1, .f32⟩
  | 13 => ⟨S2x147456, .f32⟩
  | 14 => ⟨S_, .f32⟩
  | 15 => ⟨S2x147456, .f32⟩
  | 16 => ⟨S2x147456, .f32⟩
  | 17 => ⟨S_, .f32⟩
  | 18 => ⟨S2x147456, .f32⟩
  | 19 => ⟨S2x147456, .f32⟩
  | 20 => ⟨S_, .f32⟩
  | 21 => ⟨S2x147456, .f32⟩
  | 22 => ⟨S2x147456, .f32⟩
  | 23 => ⟨S_, .f32⟩
  | 24 => ⟨S2x147456, .f32⟩
  | 25 => ⟨S2x147456, .f32⟩
  | 26 => ⟨S2x147456, .f32⟩
  | 27 => ⟨S2x147456, .f32⟩
  | 28 => ⟨S2x147456, .f32⟩
  | 29 => ⟨S2x147456, .f32⟩
  | 30 => ⟨S2x147456, .f32⟩
  | 31 => ⟨S2x147456, .f32⟩
  | 32 => ⟨S2x147456, .f32⟩
  | 33 => ⟨S2x147456, .f32⟩
  | 34 => ⟨S_, .f32⟩
  | 35 => ⟨S2x147456, .f32⟩
  | 36 => ⟨S2x147456, .f32⟩
  | 37 => ⟨S2x147456, .f32⟩
  | 38 => ⟨S_, .f32⟩
  | 39 => ⟨S2x147456, .f32⟩
  | 40 => ⟨S2x147456, .f32⟩
  | 41 => ⟨S2x147456, .f32⟩
  | 42 => ⟨S_, .f32⟩
  | 43 => ⟨S2x147456, .f32⟩
  | 44 => ⟨S2x147456, .f32⟩
  | 45 => ⟨S2x147456, .f32⟩
  | 46 => ⟨S_, .f32⟩
  | 47 => ⟨S2x147456, .f32⟩
  | 48 => ⟨S2x147456, .f32⟩
  | 49 => ⟨S2x147456, .f32⟩
  | 50 => ⟨S2x147456x1, .f32⟩
  | 51 => ⟨S2x147456x1, .f32⟩
  | 52 => ⟨S2x147456x1, .f32⟩
  | 53 => ⟨S2x147456x1, .f32⟩
  | 54 => ⟨S2x147456x4, .f32⟩
  | 55 => ⟨S_, .f32⟩
  | 56 => ⟨S2x96x66x66, .f32⟩
  | 57 => ⟨S_, .f32⟩
  | 58 => ⟨S2x96x64x64, .f32⟩
  | 59 => ⟨S2x96x64x64, .f32⟩
  | 60 => ⟨S96x96x1x1, .f32⟩
  | 61 => ⟨S96x96, .f32⟩
  | 62 => ⟨S2x64x64x96, .f32⟩
  | 63 => ⟨S2x96x64x64, .f32⟩
  | 64 => ⟨S2x96x64x64, .f32⟩
  | 65 => ⟨S2x96x64x64, .f32⟩
  | 66 => ⟨S96x96x1x1, .f32⟩
  | 67 => ⟨S96x96, .f32⟩
  | 68 => ⟨S2x64x64x96, .f32⟩
  | 69 => ⟨S2x96x64x64, .f32⟩
  | 70 => ⟨S2x96x64x64, .f32⟩
  | 71 => ⟨S2x96x64x64, .f32⟩
  | 72 => ⟨S96x96x1x1, .f32⟩
  | 73 => ⟨S96x96, .f32⟩
  | 74 => ⟨S2x64x64x96, .f32⟩
  | 75 => ⟨S2x96x64x64, .f32⟩
  | 76 => ⟨S2x96x64x64, .f32⟩
  | 77 => ⟨S2x96x64x64, .f32⟩
  | 78 => ⟨S96x96x1x1, .f32⟩
  | 79 => ⟨S96x96, .f32⟩
  | 80 => ⟨S2x64x64x96, .f32⟩
  | 81 => ⟨S2x96x64x64, .f32⟩
  | 82 => ⟨S2x96x64x64, .f32⟩
  | 83 => ⟨S2x96x64x64, .f32⟩
  | 84 => ⟨S96x96x1x1, .f32⟩
  | 85 => ⟨S96x96, .f32⟩
  | 86 => ⟨S2x64x64x96, .f32⟩
  | 87 => ⟨S2x96x64x64, .f32⟩
  | 88 => ⟨S2x96x64x64, .f32⟩
  | 89 => ⟨S2x96x64x64, .f32⟩
  | 90 => ⟨S96x96x1x1, .f32⟩
  | 91 => ⟨S96x96, .f32⟩
  | 92 => ⟨S2x64x64x96, .f32⟩
  | 93 => ⟨S2x96x64x64, .f32⟩
  | 94 => ⟨S2x96x64x64, .f32⟩
  | 95 => ⟨S2x96x64x64, .f32⟩
  | 96 => ⟨S96x96x1x1, .f32⟩
  | 97 => ⟨S96x96, .f32⟩
  | 98 => ⟨S2x64x64x96, .f32⟩
  | 99 => ⟨S2x96x64x64, .f32⟩
  | 100 => ⟨S2x96x64x64, .f32⟩
  | 101 => ⟨S2x96x64x64, .f32⟩
  | 102 => ⟨S96x96x1x1, .f32⟩
  | 103 => ⟨S96x96, .f32⟩
  | 104 => ⟨S2x64x64x96, .f32⟩
  | 105 => ⟨S2x96x64x64, .f32⟩
  | 106 => ⟨S2x96x64x64, .f32⟩
  | 107 => ⟨S2x96x64x64, .f32⟩
  | 108 => ⟨S96x96x1x1, .f32⟩
  | 109 => ⟨S96x96, .f32⟩
  | 110 => ⟨S2x64x64x96, .f32⟩
  | 111 => ⟨S2x96x64x64, .f32⟩
  | 112 => ⟨S2x96x64x64, .f32⟩
  | 113 => ⟨S1x96x1x1, .f32⟩
  | 114 => ⟨S2x96x64x64, .f32⟩
  | 115 => ⟨S2x96x64x64, .f32⟩
  | 116 => ⟨S_, .f32⟩
  | 117 => ⟨S2x96x64x64, .f32⟩
  | 118 => ⟨S2x96x64x64, .f32⟩
  | 119 => ⟨S36x96, .f32⟩
  | 120 => ⟨S2x64x64x36, .f32⟩
  | 121 => ⟨S2x36x64x64, .f32⟩
  | 122 => ⟨S1x36x1x1, .f32⟩
  | 123 => ⟨S2x36x64x64, .f32⟩
  | 124 => ⟨S2x36x64x64, .f32⟩
  | 125 => ⟨S2x9x4x64x64, .f32⟩
  | 126 => ⟨S2x64x64x9x4, .f32⟩
  | 127 => ⟨S2x36864x4, .f32⟩
  | _ => ⟨S2x96x128x128, .f32⟩

abbrev hbmTy0_2 (i : Nat) : BufTy := match i % 128 with
  | 0 => ⟨S64x64, .i32⟩
  | 1 => ⟨S64x64, .f32⟩
  | 2 => ⟨S_, .f32⟩
  | 3 => ⟨S64x64, .f32⟩
  | 4 => ⟨S64x64, .f32⟩
  | 5 => ⟨S64x64, .i32⟩
  | 6 => ⟨S64x64, .f32⟩
  | 7 => ⟨S_, .f32⟩
  | 8 => ⟨S64x64, .f32⟩
  | 9 => ⟨S64x64, .f32⟩
  | 10 => ⟨S64x64x1, .f32⟩
  | 11 => ⟨S64x64x1, .f32⟩
  | 12 => ⟨S64x64x1, .f32⟩
  | 13 => ⟨S64x64x1, .f32⟩
  | 14 => ⟨S64x64x4, .f32⟩
  | 15 => ⟨S64x64x1x4, .f32⟩
  | 16 => ⟨S1x1x9x4, .f32⟩
  | 17 => ⟨S64x64x9x4, .f32⟩
  | 18 => ⟨S64x64x9x4, .f32⟩
  | 19 => ⟨S64x64x9x4, .f32⟩
  | 20 => ⟨S36864x4, .f32⟩
  | 21 => ⟨S1x36864x4, .f32⟩
  | 22 => ⟨S2x36864x4, .f32⟩
  | 23 => ⟨S2x36864x1, .f32⟩
  | 24 => ⟨S2x36864, .f32⟩
  | 25 => ⟨S2x36864x1, .f32⟩
  | 26 => ⟨S2x36864, .f32⟩
  | 27 => ⟨S2x36864, .f32⟩
  | 28 => ⟨S2x36864x1, .f32⟩
  | 29 => ⟨S2x36864, .f32⟩
  | 30 => ⟨S2x36864x1, .f32⟩
  | 31 => ⟨S2x36864, .f32⟩
  | 32 => ⟨S2x36864, .f32⟩
  | 33 => ⟨S2x36864x1, .f32⟩
  | 34 => ⟨S2x36864, .f32⟩
  | 35 => ⟨S_, .f32⟩
  | 36 => ⟨S2x36864, .f32⟩
  | 37 => ⟨S2x36864, .f32⟩
  | 38 => ⟨S2x36864, .f32⟩
  | 39 => ⟨S2x36864x1, .f32⟩
  | 40 => ⟨S2x36864, .f32⟩
  | 41 => ⟨S_, .f32⟩
  | 42 => ⟨S2x36864, .f32⟩
  | 43 => ⟨S2x36864, .f32⟩
  | 44 => ⟨S2x36864, .f32⟩
  | 45 => ⟨S2x36864x1, .f32⟩
  | 46 => ⟨S2x36864, .f32⟩
  | 47 => ⟨S2x36864x1, .f32⟩
  | 48 => ⟨S2x36864, .f32⟩
  | 49 => ⟨S2x36864x1, .f32⟩
  | 50 => ⟨S2x36864, .f32⟩
  | 51 => ⟨S2x36864x1, .f32⟩
  | 52 => ⟨S2x36864, .f32⟩
  | 53 => ⟨S_, .f32⟩
  | 54 => ⟨S2x36864, .f32⟩
  | 55 => ⟨S2x36864, .f32⟩
  | 56 => ⟨S_, .f32⟩
  | 57 => ⟨S2x36864, .f32⟩
  | 58 => ⟨S2x36864, .f32⟩
  | 59 => ⟨S_, .f32⟩
  | 60 => ⟨S2x36864, .f32⟩
  | 61 => ⟨S2x36864, .f32⟩
  | 62 => ⟨S_, .f32⟩
  | 63 => ⟨S2x36864, .f32⟩
  | 64 => ⟨S2x36864, .f32⟩
  | 65 => ⟨S2x36864, .f32⟩
  | 66 => ⟨S2x36864, .f32⟩
  | 67 => ⟨S2x36864, .f32⟩
  | 68 => ⟨S2x36864, .f32⟩
  | 69 => ⟨S2x36864, .f32⟩
  | 70 => ⟨S2x36864, .f32⟩
  | 71 => ⟨S2x36864, .f32⟩
  | 72 => ⟨S2x36864, .f32⟩
  | 73 => ⟨S_, .f32⟩
  | 74 => ⟨S2x36864, .f32⟩
  | 75 => ⟨S2x36864, .f32⟩
  | 76 => ⟨S2x36864, .f32⟩
  | 77 => ⟨S_, .f32⟩
  | 78 => ⟨S2x36864, .f32⟩
  | 79 => ⟨S2x36864, .f32⟩
  | 80 => ⟨S2x36864, .f32⟩
  | 81 => ⟨S_, .f32⟩
  | 82 => ⟨S2x36864, .f32⟩
  | 83 => ⟨S2x36864, .f32⟩
  | 84 => ⟨S2x36864, .f32⟩
  | 85 => ⟨S_, .f32⟩
  | 86 => ⟨S2x36864, .f32⟩
  | 87 => ⟨S2x36864, .f32⟩
  | 88 => ⟨S2x36864, .f32⟩
  | 89 => ⟨S2x36864x1, .f32⟩
  | 90 => ⟨S2x36864x1, .f32⟩
  | 91 => ⟨S2x36864x1, .f32⟩
  | 92 => ⟨S2x36864x1, .f32⟩
  | 93 => ⟨S2x36864x4, .f32⟩
  | 94 => ⟨S_, .f32⟩
  | 95 => ⟨S2x96x34x34, .f32⟩
  | 96 => ⟨S_, .f32⟩
  | 97 => ⟨S2x96x32x32, .f32⟩
  | 98 => ⟨S2x96x32x32, .f32⟩
  | 99 => ⟨S96x96x1x1, .f32⟩
  | 100 => ⟨S96x96, .f32⟩
  | 101 => ⟨S2x32x32x96, .f32⟩
  | 102 => ⟨S2x96x32x32, .f32⟩
  | 103 => ⟨S2x96x32x32, .f32⟩
  | 104 => ⟨S2x96x32x32, .f32⟩
  | 105 => ⟨S96x96x1x1, .f32⟩
  | 106 => ⟨S96x96, .f32⟩
  | 107 => ⟨S2x32x32x96, .f32⟩
  | 108 => ⟨S2x96x32x32, .f32⟩
  | 109 => ⟨S2x96x32x32, .f32⟩
  | 110 => ⟨S2x96x32x32, .f32⟩
  | 111 => ⟨S96x96x1x1, .f32⟩
  | 112 => ⟨S96x96, .f32⟩
  | 113 => ⟨S2x32x32x96, .f32⟩
  | 114 => ⟨S2x96x32x32, .f32⟩
  | 115 => ⟨S2x96x32x32, .f32⟩
  | 116 => ⟨S2x96x32x32, .f32⟩
  | 117 => ⟨S96x96x1x1, .f32⟩
  | 118 => ⟨S96x96, .f32⟩
  | 119 => ⟨S2x32x32x96, .f32⟩
  | 120 => ⟨S2x96x32x32, .f32⟩
  | 121 => ⟨S2x96x32x32, .f32⟩
  | 122 => ⟨S2x96x32x32, .f32⟩
  | 123 => ⟨S96x96x1x1, .f32⟩
  | 124 => ⟨S96x96, .f32⟩
  | 125 => ⟨S2x32x32x96, .f32⟩
  | 126 => ⟨S2x96x32x32, .f32⟩
  | 127 => ⟨S2x96x32x32, .f32⟩
  | _ => ⟨S2x96x128x128, .f32⟩

abbrev hbmTy0_3 (i : Nat) : BufTy := match i % 128 with
  | 0 => ⟨S2x96x32x32, .f32⟩
  | 1 => ⟨S96x96x1x1, .f32⟩
  | 2 => ⟨S96x96, .f32⟩
  | 3 => ⟨S2x32x32x96, .f32⟩
  | 4 => ⟨S2x96x32x32, .f32⟩
  | 5 => ⟨S2x96x32x32, .f32⟩
  | 6 => ⟨S2x96x32x32, .f32⟩
  | 7 => ⟨S96x96x1x1, .f32⟩
  | 8 => ⟨S96x96, .f32⟩
  | 9 => ⟨S2x32x32x96, .f32⟩
  | 10 => ⟨S2x96x32x32, .f32⟩
  | 11 => ⟨S2x96x32x32, .f32⟩
  | 12 => ⟨S2x96x32x32, .f32⟩
  | 13 => ⟨S96x96x1x1, .f32⟩
  | 14 => ⟨S96x96, .f32⟩
  | 15 => ⟨S2x32x32x96, .f32⟩
  | 16 => ⟨S2x96x32x32, .f32⟩
  | 17 => ⟨S2x96x32x32, .f32⟩
  | 18 => ⟨S2x96x32x32, .f32⟩
  | 19 => ⟨S96x96x1x1, .f32⟩
  | 20 => ⟨S96x96, .f32⟩
  | 21 => ⟨S2x32x32x96, .f32⟩
  | 22 => ⟨S2x96x32x32, .f32⟩
  | 23 => ⟨S2x96x32x32, .f32⟩
  | 24 => ⟨S1x96x1x1, .f32⟩
  | 25 => ⟨S2x96x32x32, .f32⟩
  | 26 => ⟨S2x96x32x32, .f32⟩
  | 27 => ⟨S_, .f32⟩
  | 28 => ⟨S2x96x32x32, .f32⟩
  | 29 => ⟨S2x96x32x32, .f32⟩
  | 30 => ⟨S36x96, .f32⟩
  | 31 => ⟨S2x32x32x36, .f32⟩
  | 32 => ⟨S2x36x32x32, .f32⟩
  | 33 => ⟨S1x36x1x1, .f32⟩
  | 34 => ⟨S2x36x32x32, .f32⟩
  | 35 => ⟨S2x36x32x32, .f32⟩
  | 36 => ⟨S2x9x4x32x32, .f32⟩
  | 37 => ⟨S2x32x32x9x4, .f32⟩
  | 38 => ⟨S2x9216x4, .f32⟩
  | 39 => ⟨S32x32, .i32⟩
  | 40 => ⟨S32x32, .f32⟩
  | 41 => ⟨S_, .f32⟩
  | 42 => ⟨S32x32, .f32⟩
  | 43 => ⟨S32x32, .f32⟩
  | 44 => ⟨S32x32, .i32⟩
  | 45 => ⟨S32x32, .f32⟩
  | 46 => ⟨S_, .f32⟩
  | 47 => ⟨S32x32, .f32⟩
  | 48 => ⟨S32x32, .f32⟩
  | 49 => ⟨S32x32x1, .f32⟩
  | 50 => ⟨S32x32x1, .f32⟩
  | 51 => ⟨S32x32x1, .f32⟩
  | 52 => ⟨S32x32x1, .f32⟩
  | 53 => ⟨S32x32x4, .f32⟩
  | 54 => ⟨S32x32x1x4, .f32⟩
  | 55 => ⟨S1x1x9x4, .f32⟩
  | 56 => ⟨S32x32x9x4, .f32⟩
  | 57 => ⟨S32x32x9x4, .f32⟩
  | 58 => ⟨S32x32x9x4, .f32⟩
  | 59 => ⟨S9216x4, .f32⟩
  | 60 => ⟨S1x9216x4, .f32⟩
  | 61 => ⟨S2x9216x4, .f32⟩
  | 62 => ⟨S2x9216x1, .f32⟩
  | 63 => ⟨S2x9216, .f32⟩
  | 64 => ⟨S2x9216x1, .f32⟩
  | 65 => ⟨S2x9216, .f32⟩
  | 66 => ⟨S2x9216, .f32⟩
  | 67 => ⟨S2x9216x1, .f32⟩
  | 68 => ⟨S2x9216, .f32⟩
  | 69 => ⟨S2x9216x1, .f32⟩
  | 70 => ⟨S2x9216, .f32⟩
  | 71 => ⟨S2x9216, .f32⟩
  | 72 => ⟨S2x9216x1, .f32⟩
  | 73 => ⟨S2x9216, .f32⟩
  | 74 => ⟨S_, .f32⟩
  | 75 => ⟨S2x9216, .f32⟩
  | 76 => ⟨S2x9216, .f32⟩
  | 77 => ⟨S2x9216, .f32⟩
  | 78 => ⟨S2x9216x1, .f32⟩
  | 79 => ⟨S2x9216, .f32⟩
  | 80 => ⟨S_, .f32⟩
  | 81 => ⟨S2x9216, .f32⟩
  | 82 => ⟨S2x9216, .f32⟩
  | 83 => ⟨S2x9216, .f32⟩
  | 84 => ⟨S2x9216x1, .f32⟩
  | 85 => ⟨S2x9216, .f32⟩
  | 86 => ⟨S2x9216x1, .f32⟩
  | 87 => ⟨S2x9216, .f32⟩
  | 88 => ⟨S2x9216x1, .f32⟩
  | 89 => ⟨S2x9216, .f32⟩
  | 90 => ⟨S2x9216x1, .f32⟩
  | 91 => ⟨S2x9216, .f32⟩
  | 92 => ⟨S_, .f32⟩
  | 93 => ⟨S2x9216, .f32⟩
  | 94 => ⟨S2x9216, .f32⟩
  | 95 => ⟨S_, .f32⟩
  | 96 => ⟨S2x9216, .f32⟩
  | 97 => ⟨S2x9216, .f32⟩
  | 98 => ⟨S_, .f32⟩
  | 99 => ⟨S2x9216, .f32⟩
  | 100 => ⟨S2x9216, .f32⟩
  | 101 => ⟨S_, .f32⟩
  | 102 => ⟨S2x9216, .f32⟩
  | 103 => ⟨S2x9216, .f32⟩
  | 104 => ⟨S2x9216, .f32⟩
  | 105 => ⟨S2x9216, .f32⟩
  | 106 => ⟨S2x9216, .f32⟩
  | 107 => ⟨S2x9216, .f32⟩
  | 108 => ⟨S2x9216, .f32⟩
  | 109 => ⟨S2x9216, .f32⟩
  | 110 => ⟨S2x9216, .f32⟩
  | 111 => ⟨S2x9216, .f32⟩
  | 112 => ⟨S_, .f32⟩
  | 113 => ⟨S2x9216, .f32⟩
  | 114 => ⟨S2x9216, .f32⟩
  | 115 => ⟨S2x9216, .f32⟩
  | 116 => ⟨S_, .f32⟩
  | 117 => ⟨S2x9216, .f32⟩
  | 118 => ⟨S2x9216, .f32⟩
  | 119 => ⟨S2x9216, .f32⟩
  | 120 => ⟨S_, .f32⟩
  | 121 => ⟨S2x9216, .f32⟩
  | 122 => ⟨S2x9216, .f32⟩
  | 123 => ⟨S2x9216, .f32⟩
  | 124 => ⟨S_, .f32⟩
  | 125 => ⟨S2x9216, .f32⟩
  | 126 => ⟨S2x9216, .f32⟩
  | 127 => ⟨S2x9216, .f32⟩
  | _ => ⟨S2x96x128x128, .f32⟩

abbrev hbmTy0_4 (i : Nat) : BufTy := match i % 128 with
  | 0 => ⟨S2x9216x1, .f32⟩
  | 1 => ⟨S2x9216x1, .f32⟩
  | 2 => ⟨S2x9216x1, .f32⟩
  | 3 => ⟨S2x9216x1, .f32⟩
  | 4 => ⟨S2x9216x4, .f32⟩
  | 5 => ⟨S_, .f32⟩
  | 6 => ⟨S2x96x18x18, .f32⟩
  | 7 => ⟨S_, .f32⟩
  | 8 => ⟨S2x96x16x16, .f32⟩
  | 9 => ⟨S2x96x16x16, .f32⟩
  | 10 => ⟨S96x96x1x1, .f32⟩
  | 11 => ⟨S96x96, .f32⟩
  | 12 => ⟨S2x16x16x96, .f32⟩
  | 13 => ⟨S2x96x16x16, .f32⟩
  | 14 => ⟨S2x96x16x16, .f32⟩
  | 15 => ⟨S2x96x16x16, .f32⟩
  | 16 => ⟨S96x96x1x1, .f32⟩
  | 17 => ⟨S96x96, .f32⟩
  | 18 => ⟨S2x16x16x96, .f32⟩
  | 19 => ⟨S2x96x16x16, .f32⟩
  | 20 => ⟨S2x96x16x16, .f32⟩
  | 21 => ⟨S2x96x16x16, .f32⟩
  | 22 => ⟨S96x96x1x1, .f32⟩
  | 23 => ⟨S96x96, .f32⟩
  | 24 => ⟨S2x16x16x96, .f32⟩
  | 25 => ⟨S2x96x16x16, .f32⟩
  | 26 => ⟨S2x96x16x16, .f32⟩
  | 27 => ⟨S2x96x16x16, .f32⟩
  | 28 => ⟨S96x96x1x1, .f32⟩
  | 29 => ⟨S96x96, .f32⟩
  | 30 => ⟨S2x16x16x96, .f32⟩
  | 31 => ⟨S2x96x16x16, .f32⟩
  | 32 => ⟨S2x96x16x16, .f32⟩
  | 33 => ⟨S2x96x16x16, .f32⟩
  | 34 => ⟨S96x96x1x1, .f32⟩
  | 35 => ⟨S96x96, .f32⟩
  | 36 => ⟨S2x16x16x96, .f32⟩
  | 37 => ⟨S2x96x16x16, .f32⟩
  | 38 => ⟨S2x96x16x16, .f32⟩
  | 39 => ⟨S2x96x16x16, .f32⟩
  | 40 => ⟨S96x96x1x1, .f32⟩
  | 41 => ⟨S96x96, .f32⟩
  | 42 => ⟨S2x16x16x96, .f32⟩
  | 43 => ⟨S2x96x16x16, .f32⟩
  | 44 => ⟨S2x96x16x16, .f32⟩
  | 45 => ⟨S2x96x16x16, .f32⟩
  | 46 => ⟨S96x96x1x1, .f32⟩
  | 47 => ⟨S96x96, .f32⟩
  | 48 => ⟨S2x16x16x96, .f32⟩
  | 49 => ⟨S2x96x16x16, .f32⟩
  | 50 => ⟨S2x96x16x16, .f32⟩
  | 51 => ⟨S2x96x16x16, .f32⟩
  | 52 => ⟨S96x96x1x1, .f32⟩
  | 53 => ⟨S96x96, .f32⟩
  | 54 => ⟨S2x16x16x96, .f32⟩
  | 55 => ⟨S2x96x16x16, .f32⟩
  | 56 => ⟨S2x96x16x16, .f32⟩
  | 57 => ⟨S2x96x16x16, .f32⟩
  | 58 => ⟨S96x96x1x1, .f32⟩
  | 59 => ⟨S96x96, .f32⟩
  | 60 => ⟨S2x16x16x96, .f32⟩
  | 61 => ⟨S2x96x16x16, .f32⟩
  | 62 => ⟨S2x96x16x16, .f32⟩
  | 63 => ⟨S1x96x1x1, .f32⟩
  | 64 => ⟨S2x96x16x16, .f32⟩
  | 65 => ⟨S2x96x16x16, .f32⟩
  | 66 => ⟨S_, .f32⟩
  | 67 => ⟨S2x96x16x16, .f32⟩
  | 68 => ⟨S2x96x16x16, .f32⟩
  | 69 => ⟨S36x96, .f32⟩
  | 70 => ⟨S2x16x16x36, .f32⟩
  | 71 => ⟨S2x36x16x16, .f32⟩
  | 72 => ⟨S1x36x1x1, .f32⟩
  | 73 => ⟨S2x36x16x16, .f32⟩
  | 74 => ⟨S2x36x16x16, .f32⟩
  | 75 => ⟨S2x9x4x16x16, .f32⟩
  | 76 => ⟨S2x16x16x9x4, .f32⟩
  | 77 => ⟨S2x2304x4, .f32⟩
  | 78 => ⟨S16x16, .i32⟩
  | 79 => ⟨S16x16, .f32⟩
  | 80 => ⟨S_, .f32⟩
  | 81 => ⟨S16x16, .f32⟩
  | 82 => ⟨S16x16, .f32⟩
  | 83 => ⟨S16x16, .i32⟩
  | 84 => ⟨S16x16, .f32⟩
  | 85 => ⟨S_, .f32⟩
  | 86 => ⟨S16x16, .f32⟩
  | 87 => ⟨S16x16, .f32⟩
  | 88 => ⟨S16x16x1, .f32⟩
  | 89 => ⟨S16x16x1, .f32⟩
  | 90 => ⟨S16x16x1, .f32⟩
  | 91 => ⟨S16x16x1, .f32⟩
  | 92 => ⟨S16x16x4, .f32⟩
  | 93 => ⟨S16x16x1x4, .f32⟩
  | 94 => ⟨S1x1x9x4, .f32⟩
  | 95 => ⟨S16x16x9x4, .f32⟩
  | 96 => ⟨S16x16x9x4, .f32⟩
  | 97 => ⟨S16x16x9x4, .f32⟩
  | 98 => ⟨S2304x4, .f32⟩
  | 99 => ⟨S1x2304x4, .f32⟩
  | 100 => ⟨S2x2304x4, .f32⟩
  | 101 => ⟨S2x2304x1, .f32⟩
  | 102 => ⟨S2x2304, .f32⟩
  | 103 => ⟨S2x2304x1, .f32⟩
  | 104 => ⟨S2x2304, .f32⟩
  | 105 => ⟨S2x2304, .f32⟩
  | 106 => ⟨S2x2304x1, .f32⟩
  | 107 => ⟨S2x2304, .f32⟩
  | 108 => ⟨S2x2304x1, .f32⟩
  | 109 => ⟨S2x2304, .f32⟩
  | 110 => ⟨S2x2304, .f32⟩
  | 111 => ⟨S2x2304x1, .f32⟩
  | 112 => ⟨S2x2304, .f32⟩
  | 113 => ⟨S_, .f32⟩
  | 114 => ⟨S2x2304, .f32⟩
  | 115 => ⟨S2x2304, .f32⟩
  | 116 => ⟨S2x2304, .f32⟩
  | 117 => ⟨S2x2304x1, .f32⟩
  | 118 => ⟨S2x2304, .f32⟩
  | 119 => ⟨S_, .f32⟩
  | 120 => ⟨S2x2304, .f32⟩
  | 121 => ⟨S2x2304, .f32⟩
  | 122 => ⟨S2x2304, .f32⟩
  | 123 => ⟨S2x2304x1, .f32⟩
  | 124 => ⟨S2x2304, .f32⟩
  | 125 => ⟨S2x2304x1, .f32⟩
  | 126 => ⟨S2x2304, .f32⟩
  | 127 => ⟨S2x2304x1, .f32⟩
  | _ => ⟨S2x96x128x128, .f32⟩

abbrev hbmTy0_5 (i : Nat) : BufTy := match i % 128 with
  | 0 => ⟨S2x2304, .f32⟩
  | 1 => ⟨S2x2304x1, .f32⟩
  | 2 => ⟨S2x2304, .f32⟩
  | 3 => ⟨S_, .f32⟩
  | 4 => ⟨S2x2304, .f32⟩
  | 5 => ⟨S2x2304, .f32⟩
  | 6 => ⟨S_, .f32⟩
  | 7 => ⟨S2x2304, .f32⟩
  | 8 => ⟨S2x2304, .f32⟩
  | 9 => ⟨S_, .f32⟩
  | 10 => ⟨S2x2304, .f32⟩
  | 11 => ⟨S2x2304, .f32⟩
  | 12 => ⟨S_, .f32⟩
  | 13 => ⟨S2x2304, .f32⟩
  | 14 => ⟨S2x2304, .f32⟩
  | 15 => ⟨S2x2304, .f32⟩
  | 16 => ⟨S2x2304, .f32⟩
  | 17 => ⟨S2x2304, .f32⟩
  | 18 => ⟨S2x2304, .f32⟩
  | 19 => ⟨S2x2304, .f32⟩
  | 20 => ⟨S2x2304, .f32⟩
  | 21 => ⟨S2x2304, .f32⟩
  | 22 => ⟨S2x2304, .f32⟩
  | 23 => ⟨S_, .f32⟩
  | 24 => ⟨S2x2304, .f32⟩
  | 25 => ⟨S2x2304, .f32⟩
  | 26 => ⟨S2x2304, .f32⟩
  | 27 => ⟨S_, .f32⟩
  | 28 => ⟨S2x2304, .f32⟩
  | 29 => ⟨S2x2304, .f32⟩
  | 30 => ⟨S2x2304, .f32⟩
  | 31 => ⟨S_, .f32⟩
  | 32 => ⟨S2x2304, .f32⟩
  | 33 => ⟨S2x2304, .f32⟩
  | 34 => ⟨S2x2304, .f32⟩
  | 35 => ⟨S_, .f32⟩
  | 36 => ⟨S2x2304, .f32⟩
  | 37 => ⟨S2x2304, .f32⟩
  | 38 => ⟨S2x2304, .f32⟩
  | 39 => ⟨S2x2304x1, .f32⟩
  | 40 => ⟨S2x2304x1, .f32⟩
  | 41 => ⟨S2x2304x1, .f32⟩
  | 42 => ⟨S2x2304x1, .f32⟩
  | 43 => ⟨S2x2304x4, .f32⟩
  | 44 => ⟨S_, .f32⟩
  | 45 => ⟨S2x96x10x10, .f32⟩
  | 46 => ⟨S_, .f32⟩
  | 47 => ⟨S2x96x8x8, .f32⟩
  | 48 => ⟨S2x96x8x8, .f32⟩
  | 49 => ⟨S96x96x1x1, .f32⟩
  | 50 => ⟨S96x96, .f32⟩
  | 51 => ⟨S2x8x8x96, .f32⟩
  | 52 => ⟨S2x96x8x8, .f32⟩
  | 53 => ⟨S2x96x8x8, .f32⟩
  | 54 => ⟨S2x96x8x8, .f32⟩
  | 55 => ⟨S96x96x1x1, .f32⟩
  | 56 => ⟨S96x96, .f32⟩
  | 57 => ⟨S2x8x8x96, .f32⟩
  | 58 => ⟨S2x96x8x8, .f32⟩
  | 59 => ⟨S2x96x8x8, .f32⟩
  | 60 => ⟨S2x96x8x8, .f32⟩
  | 61 => ⟨S96x96x1x1, .f32⟩
  | 62 => ⟨S96x96, .f32⟩
  | 63 => ⟨S2x8x8x96, .f32⟩
  | 64 => ⟨S2x96x8x8, .f32⟩
  | 65 => ⟨S2x96x8x8, .f32⟩
  | 66 => ⟨S2x96x8x8, .f32⟩
  | 67 => ⟨S96x96x1x1, .f32⟩
  | 68 => ⟨S96x96, .f32⟩
  | 69 => ⟨S2x8x8x96, .f32⟩
  | 70 => ⟨S2x96x8x8, .f32⟩
  | 71 => ⟨S2x96x8x8, .f32⟩
  | 72 => ⟨S2x96x8x8, .f32⟩
  | 73 => ⟨S96x96x1x1, .f32⟩
  | 74 => ⟨S96x96, .f32⟩
  | 75 => ⟨S2x8x8x96, .f32⟩
  | 76 => ⟨S2x96x8x8, .f32⟩
  | 77 => ⟨S2x96x8x8, .f32⟩
  | 78 => ⟨S2x96x8x8, .f32⟩
  | 79 => ⟨S96x96x1x1, .f32⟩
  | 80 => ⟨S96x96, .f32⟩
  | 81 => ⟨S2x8x8x96, .f32⟩
  | 82 => ⟨S2x96x8x8, .f32⟩
  | 83 => ⟨S2x96x8x8, .f32⟩
  | 84 => ⟨S2x96x8x8, .f32⟩
  | 85 => ⟨S96x96x1x1, .f32⟩
  | 86 => ⟨S96x96, .f32⟩
  | 87 => ⟨S2x8x8x96, .f32⟩
  | 88 => ⟨S2x96x8x8, .f32⟩
  | 89 => ⟨S2x96x8x8, .f32⟩
  | 90 => ⟨S2x96x8x8, .f32⟩
  | 91 => ⟨S96x96x1x1, .f32⟩
  | 92 => ⟨S96x96, .f32⟩
  | 93 => ⟨S2x8x8x96, .f32⟩
  | 94 => ⟨S2x96x8x8, .f32⟩
  | 95 => ⟨S2x96x8x8, .f32⟩
  | 96 => ⟨S2x96x8x8, .f32⟩
  | 97 => ⟨S96x96x1x1, .f32⟩
  | 98 => ⟨S96x96, .f32⟩
  | 99 => ⟨S2x8x8x96, .f32⟩
  | 100 => ⟨S2x96x8x8, .f32⟩
  | 101 => ⟨S2x96x8x8, .f32⟩
  | 102 => ⟨S1x96x1x1, .f32⟩
  | 103 => ⟨S2x96x8x8, .f32⟩
  | 104 => ⟨S2x96x8x8, .f32⟩
  | 105 => ⟨S_, .f32⟩
  | 106 => ⟨S2x96x8x8, .f32⟩
  | 107 => ⟨S2x96x8x8, .f32⟩
  | 108 => ⟨S36x96, .f32⟩
  | 109 => ⟨S2x8x8x36, .f32⟩
  | 110 => ⟨S2x36x8x8, .f32⟩
  | 111 => ⟨S1x36x1x1, .f32⟩
  | 112 => ⟨S2x36x8x8, .f32⟩
  | 113 => ⟨S2x36x8x8, .f32⟩
  | 114 => ⟨S2x9x4x8x8, .f32⟩
  | 115 => ⟨S2x8x8x9x4, .f32⟩
  | 116 => ⟨S2x576x4, .f32⟩
  | 117 => ⟨S8x8, .i32⟩
  | 118 => ⟨S8x8, .f32⟩
  | 119 => ⟨S_, .f32⟩
  | 120 => ⟨S8x8, .f32⟩
  | 121 => ⟨S8x8, .f32⟩
  | 122 => ⟨S8x8, .i32⟩
  | 123 => ⟨S8x8, .f32⟩
  | 124 => ⟨S_, .f32⟩
  | 125 => ⟨S8x8, .f32⟩
  | 126 => ⟨S8x8, .f32⟩
  | 127 => ⟨S8x8x1, .f32⟩
  | _ => ⟨S2x96x128x128, .f32⟩

abbrev hbmTy0_6 (i : Nat) : BufTy := match i % 128 with
  | 0 => ⟨S8x8x1, .f32⟩
  | 1 => ⟨S8x8x1, .f32⟩
  | 2 => ⟨S8x8x1, .f32⟩
  | 3 => ⟨S8x8x4, .f32⟩
  | 4 => ⟨S8x8x1x4, .f32⟩
  | 5 => ⟨S1x1x9x4, .f32⟩
  | 6 => ⟨S8x8x9x4, .f32⟩
  | 7 => ⟨S8x8x9x4, .f32⟩
  | 8 => ⟨S8x8x9x4, .f32⟩
  | 9 => ⟨S576x4, .f32⟩
  | 10 => ⟨S1x576x4, .f32⟩
  | 11 => ⟨S2x576x4, .f32⟩
  | 12 => ⟨S2x576x1, .f32⟩
  | 13 => ⟨S2x576, .f32⟩
  | 14 => ⟨S2x576x1, .f32⟩
  | 15 => ⟨S2x576, .f32⟩
  | 16 => ⟨S2x576, .f32⟩
  | 17 => ⟨S2x576x1, .f32⟩
  | 18 => ⟨S2x576, .f32⟩
  | 19 => ⟨S2x576x1, .f32⟩
  | 20 => ⟨S2x576, .f32⟩
  | 21 => ⟨S2x576, .f32⟩
  | 22 => ⟨S2x576x1, .f32⟩
  | 23 => ⟨S2x576, .f32⟩
  | 24 => ⟨S_, .f32⟩
  | 25 => ⟨S2x576, .f32⟩
  | 26 => ⟨S2x576, .f32⟩
  | 27 => ⟨S2x576, .f32⟩
  | 28 => ⟨S2x576x1, .f32⟩
  | 29 => ⟨S2x576, .f32⟩
  | 30 => ⟨S_, .f32⟩
  | 31 => ⟨S2x576, .f32⟩
  | 32 => ⟨S2x576, .f32⟩
  | 33 => ⟨S2x576, .f32⟩
  | 34 => ⟨S2x576x1, .f32⟩
  | 35 => ⟨S2x576, .f32⟩
  | 36 => ⟨S2x576x1, .f32⟩
  | 37 => ⟨S2x576, .f32⟩
  | 38 => ⟨S2x576x1, .f32⟩
  | 39 => ⟨S2x576, .f32⟩
  | 40 => ⟨S2x576x1, .f32⟩
  | 41 => ⟨S2x576, .f32⟩
  | 42 => ⟨S_, .f32⟩
  | 43 => ⟨S2x576, .f32⟩
  | 44 => ⟨S2x576, .f32⟩
  | 45 => ⟨S_, .f32⟩
  | 46 => ⟨S2x576, .f32⟩
  | 47 => ⟨S2x576, .f32⟩
  | 48 => ⟨S_, .f32⟩
  | 49 => ⟨S2x576, .f32⟩
  | 50 => ⟨S2x576, .f32⟩
  | 51 => ⟨S_, .f32⟩
  | 52 => ⟨S2x576, .f32⟩
  | 53 => ⟨S2x576, .f32⟩
  | 54 => ⟨S2x576, .f32⟩
  | 55 => ⟨S2x576, .f32⟩
  | 56 => ⟨S2x576, .f32⟩
  | 57 => ⟨S2x576, .f32⟩
  | 58 => ⟨S2x576, .f32⟩
  | 59 => ⟨S2x576, .f32⟩
  | 60 => ⟨S2x576, .f32⟩
  | 61 => ⟨S2x576, .f32⟩
  | 62 => ⟨S_, .f32⟩
  | 63 => ⟨S2x576, .f32⟩
  | 64 => ⟨S2x576, .f32⟩
  | 65 => ⟨S2x576, .f32⟩
  | 66 => ⟨S_, .f32⟩
  | 67 => ⟨S2x576, .f32⟩
  | 68 => ⟨S2x576, .f32⟩
  | 69 => ⟨S2x576, .f32⟩
  | 70 => ⟨S_, .f32⟩
  | 71 => ⟨S2x576, .f32⟩
  | 72 => ⟨S2x576, .f32⟩
  | 73 => ⟨S2x576, .f32⟩
  | 74 => ⟨S_, .f32⟩
  | 75 => ⟨S2x576, .f32⟩
  | 76 => ⟨S2x576, .f32⟩
  | 77 => ⟨S2x576, .f32⟩
  | 78 => ⟨S2x576x1, .f32⟩
  | 79 => ⟨S2x576x1, .f32⟩
  | 80 => ⟨S2x576x1, .f32⟩
  | 81 => ⟨S2x576x1, .f32⟩
  | 82 => ⟨S2x576x4, .f32⟩
  | 83 => ⟨S2x196416x4, .f32⟩
  | _ => ⟨S2x96x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x96x128x128, .f32⟩

abbrev bufTy : (tb : Table) → Fin (tcTables nBuf tb) → BufTy
  | .hbm, ⟨i, _⟩ => hbmTy i
  | _, _ => ⟨S2x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_cst_4 : Ref sig .tc := ⟨.hbm, 16, rfl⟩
abbrev main_v0 : Ref sig .tc := ⟨.hbm, 17, rfl⟩
abbrev main_cst_5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_7 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_9 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_10 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_cst_11 : Ref sig .tc := ⟨.hbm, 142, rfl⟩
abbrev main_v119 : Ref sig .tc := ⟨.hbm, 143, rfl⟩
abbrev main_v120 : Ref sig .tc := ⟨.hbm, 144, rfl⟩
abbrev main_cst_12 : Ref sig .tc := ⟨.hbm, 145, rfl⟩
abbrev main_v121 : Ref sig .tc := ⟨.hbm, 146, rfl⟩
abbrev main_v122 : Ref sig .tc := ⟨.hbm, 147, rfl⟩
abbrev main_cst_13 : Ref sig .tc := ⟨.hbm, 148, rfl⟩
abbrev main_v123 : Ref sig .tc := ⟨.hbm, 149, rfl⟩
abbrev main_v124 : Ref sig .tc := ⟨.hbm, 150, rfl⟩
abbrev main_cst_14 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_15 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_16 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_17 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_18 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_19 : Ref sig .tc := ⟨.hbm, 183, rfl⟩
abbrev main_v152 : Ref sig .tc := ⟨.hbm, 184, rfl⟩
abbrev main_cst_20 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_cst_21 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_cst_22 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_cst_23 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_cst_24 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_cst_25 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_cst_26 : Ref sig .tc := ⟨.hbm, 309, rfl⟩
abbrev main_v271 : Ref sig .tc := ⟨.hbm, 310, rfl⟩
abbrev main_v272 : Ref sig .tc := ⟨.hbm, 311, rfl⟩
abbrev main_cst_27 : Ref sig .tc := ⟨.hbm, 312, rfl⟩
abbrev main_v273 : Ref sig .tc := ⟨.hbm, 313, rfl⟩
abbrev main_v274 : Ref sig .tc := ⟨.hbm, 314, rfl⟩
abbrev main_cst_28 : Ref sig .tc := ⟨.hbm, 315, rfl⟩
abbrev main_v275 : Ref sig .tc := ⟨.hbm, 316, rfl⟩
abbrev main_v276 : Ref sig .tc := ⟨.hbm, 317, rfl⟩
abbrev main_cst_29 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_cst_30 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_cst_31 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_cst_32 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_cst_33 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_cst_34 : Ref sig .tc := ⟨.hbm, 350, rfl⟩
abbrev main_v304 : Ref sig .tc := ⟨.hbm, 351, rfl⟩
abbrev main_cst_35 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_v310 : Ref sig .tc := ⟨.hbm, 358, rfl⟩
abbrev main_v311 : Ref sig .tc := ⟨.hbm, 359, rfl⟩
abbrev main_v312 : Ref sig .tc := ⟨.hbm, 360, rfl⟩
abbrev main_v313 : Ref sig .tc := ⟨.hbm, 361, rfl⟩
abbrev main_v314 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_v345 : Ref sig .tc := ⟨.hbm, 393, rfl⟩
abbrev main_v346 : Ref sig .tc := ⟨.hbm, 394, rfl⟩
abbrev main_v347 : Ref sig .tc := ⟨.hbm, 395, rfl⟩
abbrev main_v348 : Ref sig .tc := ⟨.hbm, 396, rfl⟩
abbrev main_v349 : Ref sig .tc := ⟨.hbm, 397, rfl⟩
abbrev main_v350 : Ref sig .tc := ⟨.hbm, 398, rfl⟩
abbrev main_v351 : Ref sig .tc := ⟨.hbm, 399, rfl⟩
abbrev main_v352 : Ref sig .tc := ⟨.hbm, 400, rfl⟩
abbrev main_v353 : Ref sig .tc := ⟨.hbm, 401, rfl⟩
abbrev main_v354 : Ref sig .tc := ⟨.hbm, 402, rfl⟩
abbrev main_v355 : Ref sig .tc := ⟨.hbm, 403, rfl⟩
abbrev main_v356 : Ref sig .tc := ⟨.hbm, 404, rfl⟩
abbrev main_v357 : Ref sig .tc := ⟨.hbm, 405, rfl⟩
abbrev main_v358 : Ref sig .tc := ⟨.hbm, 406, rfl⟩
abbrev main_v359 : Ref sig .tc := ⟨.hbm, 407, rfl⟩
abbrev main_v360 : Ref sig .tc := ⟨.hbm, 408, rfl⟩
abbrev main_v361 : Ref sig .tc := ⟨.hbm, 409, rfl⟩
abbrev main_v362 : Ref sig .tc := ⟨.hbm, 410, rfl⟩
abbrev main_cst_36 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_cst_37 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_cst_38 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_v385 : Ref sig .tc := ⟨.hbm, 436, rfl⟩
abbrev main_v386 : Ref sig .tc := ⟨.hbm, 437, rfl⟩
abbrev main_v387 : Ref sig .tc := ⟨.hbm, 438, rfl⟩
abbrev main_v388 : Ref sig .tc := ⟨.hbm, 439, rfl⟩
abbrev main_v389 : Ref sig .tc := ⟨.hbm, 440, rfl⟩
abbrev main_v390 : Ref sig .tc := ⟨.hbm, 441, rfl⟩
abbrev main_v391 : Ref sig .tc := ⟨.hbm, 442, rfl⟩
abbrev main_v392 : Ref sig .tc := ⟨.hbm, 443, rfl⟩
abbrev main_v393 : Ref sig .tc := ⟨.hbm, 444, rfl⟩
abbrev main_v394 : Ref sig .tc := ⟨.hbm, 445, rfl⟩
abbrev main_v395 : Ref sig .tc := ⟨.hbm, 446, rfl⟩
abbrev main_v396 : Ref sig .tc := ⟨.hbm, 447, rfl⟩
abbrev main_v397 : Ref sig .tc := ⟨.hbm, 448, rfl⟩
abbrev main_v398 : Ref sig .tc := ⟨.hbm, 449, rfl⟩
abbrev main_v399 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_v406 : Ref sig .tc := ⟨.hbm, 457, rfl⟩
abbrev main_cst_39 : Ref sig .tc := ⟨.hbm, 458, rfl⟩
abbrev main_v407 : Ref sig .tc := ⟨.hbm, 459, rfl⟩
abbrev main_v408 : Ref sig .tc := ⟨.hbm, 460, rfl⟩
abbrev main_v409 : Ref sig .tc := ⟨.hbm, 461, rfl⟩
abbrev main_v410 : Ref sig .tc := ⟨.hbm, 462, rfl⟩
abbrev main_v411 : Ref sig .tc := ⟨.hbm, 463, rfl⟩
abbrev main_cst_40 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_v415 : Ref sig .tc := ⟨.hbm, 468, rfl⟩
abbrev main_v416 : Ref sig .tc := ⟨.hbm, 469, rfl⟩
abbrev main_v417 : Ref sig .tc := ⟨.hbm, 470, rfl⟩
abbrev main_v418 : Ref sig .tc := ⟨.hbm, 471, rfl⟩
abbrev main_v419 : Ref sig .tc := ⟨.hbm, 472, rfl⟩
abbrev main_v420 : Ref sig .tc := ⟨.hbm, 473, rfl⟩
abbrev main_v421 : Ref sig .tc := ⟨.hbm, 474, rfl⟩
abbrev main_v422 : Ref sig .tc := ⟨.hbm, 475, rfl⟩
abbrev main_cst_41 : Ref sig .tc := ⟨.hbm, 476, rfl⟩
abbrev main_v423 : Ref sig .tc := ⟨.hbm, 477, rfl⟩
abbrev main_v424 : Ref sig .tc := ⟨.hbm, 478, rfl⟩
abbrev main_cst_42 : Ref sig .tc := ⟨.hbm, 479, rfl⟩
abbrev main_v425 : Ref sig .tc := ⟨.hbm, 480, rfl⟩
abbrev main_v426 : Ref sig .tc := ⟨.hbm, 481, rfl⟩
abbrev main_cst_43 : Ref sig .tc := ⟨.hbm, 482, rfl⟩
abbrev main_v427 : Ref sig .tc := ⟨.hbm, 483, rfl⟩
abbrev main_v428 : Ref sig .tc := ⟨.hbm, 484, rfl⟩
abbrev main_cst_44 : Ref sig .tc := ⟨.hbm, 485, rfl⟩
abbrev main_v429 : Ref sig .tc := ⟨.hbm, 486, rfl⟩
abbrev main_v430 : Ref sig .tc := ⟨.hbm, 487, rfl⟩
abbrev main_v431 : Ref sig .tc := ⟨.hbm, 488, rfl⟩
abbrev main_v432 : Ref sig .tc := ⟨.hbm, 489, rfl⟩
abbrev main_v433 : Ref sig .tc := ⟨.hbm, 490, rfl⟩
abbrev main_v434 : Ref sig .tc := ⟨.hbm, 491, rfl⟩
abbrev main_v435 : Ref sig .tc := ⟨.hbm, 492, rfl⟩
abbrev main_v436 : Ref sig .tc := ⟨.hbm, 493, rfl⟩
abbrev main_v437 : Ref sig .tc := ⟨.hbm, 494, rfl⟩
abbrev main_v438 : Ref sig .tc := ⟨.hbm, 495, rfl⟩
abbrev main_cst_45 : Ref sig .tc := ⟨.hbm, 496, rfl⟩
abbrev main_v439 : Ref sig .tc := ⟨.hbm, 497, rfl⟩
abbrev main_v440 : Ref sig .tc := ⟨.hbm, 498, rfl⟩
abbrev main_v441 : Ref sig .tc := ⟨.hbm, 499, rfl⟩
abbrev main_cst_46 : Ref sig .tc := ⟨.hbm, 500, rfl⟩
abbrev main_v442 : Ref sig .tc := ⟨.hbm, 501, rfl⟩
abbrev main_v443 : Ref sig .tc := ⟨.hbm, 502, rfl⟩
abbrev main_v444 : Ref sig .tc := ⟨.hbm, 503, rfl⟩
abbrev main_cst_47 : Ref sig .tc := ⟨.hbm, 504, rfl⟩
abbrev main_v445 : Ref sig .tc := ⟨.hbm, 505, rfl⟩
abbrev main_v446 : Ref sig .tc := ⟨.hbm, 506, rfl⟩
abbrev main_v447 : Ref sig .tc := ⟨.hbm, 507, rfl⟩
abbrev main_cst_48 : Ref sig .tc := ⟨.hbm, 508, rfl⟩
abbrev main_v448 : Ref sig .tc := ⟨.hbm, 509, rfl⟩
abbrev main_v449 : Ref sig .tc := ⟨.hbm, 510, rfl⟩
abbrev main_v450 : Ref sig .tc := ⟨.hbm, 511, rfl⟩
abbrev main_v451 : Ref sig .tc := ⟨.hbm, 512, rfl⟩
abbrev main_v452 : Ref sig .tc := ⟨.hbm, 513, rfl⟩
abbrev main_v453 : Ref sig .tc := ⟨.hbm, 514, rfl⟩
abbrev main_v454 : Ref sig .tc := ⟨.hbm, 515, rfl⟩
abbrev main_v455 : Ref sig .tc := ⟨.hbm, 516, rfl⟩
abbrev main_cst_49 : Ref sig .tc := ⟨.hbm, 517, rfl⟩
abbrev main_v456 : Ref sig .tc := ⟨.hbm, 518, rfl⟩
abbrev main_cst_50 : Ref sig .tc := ⟨.hbm, 519, rfl⟩
abbrev main_v457 : Ref sig .tc := ⟨.hbm, 520, rfl⟩
abbrev main_v458 : Ref sig .tc := ⟨.hbm, 521, rfl⟩
abbrev main_v459 : Ref sig .tc := ⟨.hbm, 522, rfl⟩
abbrev main_v460 : Ref sig .tc := ⟨.hbm, 523, rfl⟩
abbrev main_v461 : Ref sig .tc := ⟨.hbm, 524, rfl⟩
abbrev main_v462 : Ref sig .tc := ⟨.hbm, 525, rfl⟩
abbrev main_v463 : Ref sig .tc := ⟨.hbm, 526, rfl⟩
abbrev main_v464 : Ref sig .tc := ⟨.hbm, 527, rfl⟩
abbrev main_v465 : Ref sig .tc := ⟨.hbm, 528, rfl⟩
abbrev main_v466 : Ref sig .tc := ⟨.hbm, 529, rfl⟩
abbrev main_v467 : Ref sig .tc := ⟨.hbm, 530, rfl⟩
abbrev main_v468 : Ref sig .tc := ⟨.hbm, 531, rfl⟩
abbrev main_v469 : Ref sig .tc := ⟨.hbm, 532, rfl⟩
abbrev main_v470 : Ref sig .tc := ⟨.hbm, 533, rfl⟩
abbrev main_v471 : Ref sig .tc := ⟨.hbm, 534, rfl⟩
abbrev main_v472 : Ref sig .tc := ⟨.hbm, 535, rfl⟩
abbrev main_v473 : Ref sig .tc := ⟨.hbm, 536, rfl⟩
abbrev main_v474 : Ref sig .tc := ⟨.hbm, 537, rfl⟩
abbrev main_v475 : Ref sig .tc := ⟨.hbm, 538, rfl⟩
abbrev main_v476 : Ref sig .tc := ⟨.hbm, 539, rfl⟩
abbrev main_v477 : Ref sig .tc := ⟨.hbm, 540, rfl⟩
abbrev main_v478 : Ref sig .tc := ⟨.hbm, 541, rfl⟩
abbrev main_v479 : Ref sig .tc := ⟨.hbm, 542, rfl⟩
abbrev main_v480 : Ref sig .tc := ⟨.hbm, 543, rfl⟩
abbrev main_v481 : Ref sig .tc := ⟨.hbm, 544, rfl⟩
abbrev main_v482 : Ref sig .tc := ⟨.hbm, 545, rfl⟩
abbrev main_v483 : Ref sig .tc := ⟨.hbm, 546, rfl⟩
abbrev main_v484 : Ref sig .tc := ⟨.hbm, 547, rfl⟩
abbrev main_v485 : Ref sig .tc := ⟨.hbm, 548, rfl⟩
abbrev main_v486 : Ref sig .tc := ⟨.hbm, 549, rfl⟩
abbrev main_v487 : Ref sig .tc := ⟨.hbm, 550, rfl⟩
abbrev main_v488 : Ref sig .tc := ⟨.hbm, 551, rfl⟩
abbrev main_v489 : Ref sig .tc := ⟨.hbm, 552, rfl⟩
abbrev main_v490 : Ref sig .tc := ⟨.hbm, 553, rfl⟩
abbrev main_v491 : Ref sig .tc := ⟨.hbm, 554, rfl⟩
abbrev main_v492 : Ref sig .tc := ⟨.hbm, 555, rfl⟩
abbrev main_v493 : Ref sig .tc := ⟨.hbm, 556, rfl⟩
abbrev main_v494 : Ref sig .tc := ⟨.hbm, 557, rfl⟩
abbrev main_v495 : Ref sig .tc := ⟨.hbm, 558, rfl⟩
abbrev main_v496 : Ref sig .tc := ⟨.hbm, 559, rfl⟩
abbrev main_v497 : Ref sig .tc := ⟨.hbm, 560, rfl⟩
abbrev main_v498 : Ref sig .tc := ⟨.hbm, 561, rfl⟩
abbrev main_v499 : Ref sig .tc := ⟨.hbm, 562, rfl⟩
abbrev main_v500 : Ref sig .tc := ⟨.hbm, 563, rfl⟩
abbrev main_v501 : Ref sig .tc := ⟨.hbm, 564, rfl⟩
abbrev main_v502 : Ref sig .tc := ⟨.hbm, 565, rfl⟩
abbrev main_v503 : Ref sig .tc := ⟨.hbm, 566, rfl⟩
abbrev main_v504 : Ref sig .tc := ⟨.hbm, 567, rfl⟩
abbrev main_v505 : Ref sig .tc := ⟨.hbm, 568, rfl⟩
abbrev main_v506 : Ref sig .tc := ⟨.hbm, 569, rfl⟩
abbrev main_v507 : Ref sig .tc := ⟨.hbm, 570, rfl⟩
abbrev main_v508 : Ref sig .tc := ⟨.hbm, 571, rfl⟩
abbrev main_v509 : Ref sig .tc := ⟨.hbm, 572, rfl⟩
abbrev main_v510 : Ref sig .tc := ⟨.hbm, 573, rfl⟩
abbrev main_v511 : Ref sig .tc := ⟨.hbm, 574, rfl⟩
abbrev main_v512 : Ref sig .tc := ⟨.hbm, 575, rfl⟩
abbrev main_v513 : Ref sig .tc := ⟨.hbm, 576, rfl⟩
abbrev main_v514 : Ref sig .tc := ⟨.hbm, 577, rfl⟩
abbrev main_cst_51 : Ref sig .tc := ⟨.hbm, 578, rfl⟩
abbrev main_v515 : Ref sig .tc := ⟨.hbm, 579, rfl⟩
abbrev main_v516 : Ref sig .tc := ⟨.hbm, 580, rfl⟩
abbrev main_v517 : Ref sig .tc := ⟨.hbm, 581, rfl⟩
abbrev main_v518 : Ref sig .tc := ⟨.hbm, 582, rfl⟩
abbrev main_v519 : Ref sig .tc := ⟨.hbm, 583, rfl⟩
abbrev main_v520 : Ref sig .tc := ⟨.hbm, 584, rfl⟩
abbrev main_v521 : Ref sig .tc := ⟨.hbm, 585, rfl⟩
abbrev main_v522 : Ref sig .tc := ⟨.hbm, 586, rfl⟩
abbrev main_v523 : Ref sig .tc := ⟨.hbm, 587, rfl⟩
abbrev main_v524 : Ref sig .tc := ⟨.hbm, 588, rfl⟩
abbrev main_v525 : Ref sig .tc := ⟨.hbm, 589, rfl⟩
abbrev main_v526 : Ref sig .tc := ⟨.hbm, 590, rfl⟩
abbrev main_v527 : Ref sig .tc := ⟨.hbm, 591, rfl⟩
abbrev main_cst_52 : Ref sig .tc := ⟨.hbm, 592, rfl⟩
abbrev main_v528 : Ref sig .tc := ⟨.hbm, 593, rfl⟩
abbrev main_v529 : Ref sig .tc := ⟨.hbm, 594, rfl⟩
abbrev main_v530 : Ref sig .tc := ⟨.hbm, 595, rfl⟩
abbrev main_v531 : Ref sig .tc := ⟨.hbm, 596, rfl⟩
abbrev main_cst_53 : Ref sig .tc := ⟨.hbm, 597, rfl⟩
abbrev main_v532 : Ref sig .tc := ⟨.hbm, 598, rfl⟩
abbrev main_v533 : Ref sig .tc := ⟨.hbm, 599, rfl⟩
abbrev main_v534 : Ref sig .tc := ⟨.hbm, 600, rfl⟩
abbrev main_v535 : Ref sig .tc := ⟨.hbm, 601, rfl⟩
abbrev main_v536 : Ref sig .tc := ⟨.hbm, 602, rfl⟩
abbrev main_v537 : Ref sig .tc := ⟨.hbm, 603, rfl⟩
abbrev main_v538 : Ref sig .tc := ⟨.hbm, 604, rfl⟩
abbrev main_v539 : Ref sig .tc := ⟨.hbm, 605, rfl⟩
abbrev main_v540 : Ref sig .tc := ⟨.hbm, 606, rfl⟩
abbrev main_v541 : Ref sig .tc := ⟨.hbm, 607, rfl⟩
abbrev main_v542 : Ref sig .tc := ⟨.hbm, 608, rfl⟩
abbrev main_v543 : Ref sig .tc := ⟨.hbm, 609, rfl⟩
abbrev main_v544 : Ref sig .tc := ⟨.hbm, 610, rfl⟩
abbrev main_v545 : Ref sig .tc := ⟨.hbm, 611, rfl⟩
abbrev main_v546 : Ref sig .tc := ⟨.hbm, 612, rfl⟩
abbrev main_v547 : Ref sig .tc := ⟨.hbm, 613, rfl⟩
abbrev main_v548 : Ref sig .tc := ⟨.hbm, 614, rfl⟩
abbrev main_v549 : Ref sig .tc := ⟨.hbm, 615, rfl⟩
abbrev main_v550 : Ref sig .tc := ⟨.hbm, 616, rfl⟩
abbrev main_v551 : Ref sig .tc := ⟨.hbm, 617, rfl⟩
abbrev main_v552 : Ref sig .tc := ⟨.hbm, 618, rfl⟩
abbrev main_v553 : Ref sig .tc := ⟨.hbm, 619, rfl⟩
abbrev main_v554 : Ref sig .tc := ⟨.hbm, 620, rfl⟩
abbrev main_v555 : Ref sig .tc := ⟨.hbm, 621, rfl⟩
abbrev main_v556 : Ref sig .tc := ⟨.hbm, 622, rfl⟩
abbrev main_v557 : Ref sig .tc := ⟨.hbm, 623, rfl⟩
abbrev main_v558 : Ref sig .tc := ⟨.hbm, 624, rfl⟩
abbrev main_cst_54 : Ref sig .tc := ⟨.hbm, 625, rfl⟩
abbrev main_v559 : Ref sig .tc := ⟨.hbm, 626, rfl⟩
abbrev main_v560 : Ref sig .tc := ⟨.hbm, 627, rfl⟩
abbrev main_v561 : Ref sig .tc := ⟨.hbm, 628, rfl⟩
abbrev main_v562 : Ref sig .tc := ⟨.hbm, 629, rfl⟩
abbrev main_v563 : Ref sig .tc := ⟨.hbm, 630, rfl⟩
abbrev main_cst_55 : Ref sig .tc := ⟨.hbm, 631, rfl⟩
abbrev main_v564 : Ref sig .tc := ⟨.hbm, 632, rfl⟩
abbrev main_v565 : Ref sig .tc := ⟨.hbm, 633, rfl⟩
abbrev main_v566 : Ref sig .tc := ⟨.hbm, 634, rfl⟩
abbrev main_v567 : Ref sig .tc := ⟨.hbm, 635, rfl⟩
abbrev main_v568 : Ref sig .tc := ⟨.hbm, 636, rfl⟩
abbrev main_v569 : Ref sig .tc := ⟨.hbm, 637, rfl⟩
abbrev main_v570 : Ref sig .tc := ⟨.hbm, 638, rfl⟩
abbrev main_v571 : Ref sig .tc := ⟨.hbm, 639, rfl⟩
abbrev main_v572 : Ref sig .tc := ⟨.hbm, 640, rfl⟩
abbrev main_v573 : Ref sig .tc := ⟨.hbm, 641, rfl⟩
abbrev main_v574 : Ref sig .tc := ⟨.hbm, 642, rfl⟩
abbrev main_cst_56 : Ref sig .tc := ⟨.hbm, 643, rfl⟩
abbrev main_v575 : Ref sig .tc := ⟨.hbm, 644, rfl⟩
abbrev main_v576 : Ref sig .tc := ⟨.hbm, 645, rfl⟩
abbrev main_cst_57 : Ref sig .tc := ⟨.hbm, 646, rfl⟩
abbrev main_v577 : Ref sig .tc := ⟨.hbm, 647, rfl⟩
abbrev main_v578 : Ref sig .tc := ⟨.hbm, 648, rfl⟩
abbrev main_cst_58 : Ref sig .tc := ⟨.hbm, 649, rfl⟩
abbrev main_v579 : Ref sig .tc := ⟨.hbm, 650, rfl⟩
abbrev main_v580 : Ref sig .tc := ⟨.hbm, 651, rfl⟩
abbrev main_cst_59 : Ref sig .tc := ⟨.hbm, 652, rfl⟩
abbrev main_v581 : Ref sig .tc := ⟨.hbm, 653, rfl⟩
abbrev main_v582 : Ref sig .tc := ⟨.hbm, 654, rfl⟩
abbrev main_v583 : Ref sig .tc := ⟨.hbm, 655, rfl⟩
abbrev main_v584 : Ref sig .tc := ⟨.hbm, 656, rfl⟩
abbrev main_v585 : Ref sig .tc := ⟨.hbm, 657, rfl⟩
abbrev main_v586 : Ref sig .tc := ⟨.hbm, 658, rfl⟩
abbrev main_v587 : Ref sig .tc := ⟨.hbm, 659, rfl⟩
abbrev main_v588 : Ref sig .tc := ⟨.hbm, 660, rfl⟩
abbrev main_v589 : Ref sig .tc := ⟨.hbm, 661, rfl⟩
abbrev main_v590 : Ref sig .tc := ⟨.hbm, 662, rfl⟩
abbrev main_cst_60 : Ref sig .tc := ⟨.hbm, 663, rfl⟩
abbrev main_v591 : Ref sig .tc := ⟨.hbm, 664, rfl⟩
abbrev main_v592 : Ref sig .tc := ⟨.hbm, 665, rfl⟩
abbrev main_v593 : Ref sig .tc := ⟨.hbm, 666, rfl⟩
abbrev main_cst_61 : Ref sig .tc := ⟨.hbm, 667, rfl⟩
abbrev main_v594 : Ref sig .tc := ⟨.hbm, 668, rfl⟩
abbrev main_v595 : Ref sig .tc := ⟨.hbm, 669, rfl⟩
abbrev main_v596 : Ref sig .tc := ⟨.hbm, 670, rfl⟩
abbrev main_cst_62 : Ref sig .tc := ⟨.hbm, 671, rfl⟩
abbrev main_v597 : Ref sig .tc := ⟨.hbm, 672, rfl⟩
abbrev main_v598 : Ref sig .tc := ⟨.hbm, 673, rfl⟩
abbrev main_v599 : Ref sig .tc := ⟨.hbm, 674, rfl⟩
abbrev main_cst_63 : Ref sig .tc := ⟨.hbm, 675, rfl⟩
abbrev main_v600 : Ref sig .tc := ⟨.hbm, 676, rfl⟩
abbrev main_v601 : Ref sig .tc := ⟨.hbm, 677, rfl⟩
abbrev main_v602 : Ref sig .tc := ⟨.hbm, 678, rfl⟩
abbrev main_v603 : Ref sig .tc := ⟨.hbm, 679, rfl⟩
abbrev main_v604 : Ref sig .tc := ⟨.hbm, 680, rfl⟩
abbrev main_v605 : Ref sig .tc := ⟨.hbm, 681, rfl⟩
abbrev main_v606 : Ref sig .tc := ⟨.hbm, 682, rfl⟩
abbrev main_v607 : Ref sig .tc := ⟨.hbm, 683, rfl⟩
abbrev main_cst_64 : Ref sig .tc := ⟨.hbm, 684, rfl⟩
abbrev main_v608 : Ref sig .tc := ⟨.hbm, 685, rfl⟩
abbrev main_cst_65 : Ref sig .tc := ⟨.hbm, 686, rfl⟩
abbrev main_v609 : Ref sig .tc := ⟨.hbm, 687, rfl⟩
abbrev main_v610 : Ref sig .tc := ⟨.hbm, 688, rfl⟩
abbrev main_v611 : Ref sig .tc := ⟨.hbm, 689, rfl⟩
abbrev main_v612 : Ref sig .tc := ⟨.hbm, 690, rfl⟩
abbrev main_v613 : Ref sig .tc := ⟨.hbm, 691, rfl⟩
abbrev main_v614 : Ref sig .tc := ⟨.hbm, 692, rfl⟩
abbrev main_v615 : Ref sig .tc := ⟨.hbm, 693, rfl⟩
abbrev main_v616 : Ref sig .tc := ⟨.hbm, 694, rfl⟩
abbrev main_v617 : Ref sig .tc := ⟨.hbm, 695, rfl⟩
abbrev main_v618 : Ref sig .tc := ⟨.hbm, 696, rfl⟩
abbrev main_v619 : Ref sig .tc := ⟨.hbm, 697, rfl⟩
abbrev main_v620 : Ref sig .tc := ⟨.hbm, 698, rfl⟩
abbrev main_v621 : Ref sig .tc := ⟨.hbm, 699, rfl⟩
abbrev main_v622 : Ref sig .tc := ⟨.hbm, 700, rfl⟩
abbrev main_v623 : Ref sig .tc := ⟨.hbm, 701, rfl⟩
abbrev main_v624 : Ref sig .tc := ⟨.hbm, 702, rfl⟩
abbrev main_v625 : Ref sig .tc := ⟨.hbm, 703, rfl⟩
abbrev main_v626 : Ref sig .tc := ⟨.hbm, 704, rfl⟩
abbrev main_v627 : Ref sig .tc := ⟨.hbm, 705, rfl⟩
abbrev main_v628 : Ref sig .tc := ⟨.hbm, 706, rfl⟩
abbrev main_v629 : Ref sig .tc := ⟨.hbm, 707, rfl⟩
abbrev main_v630 : Ref sig .tc := ⟨.hbm, 708, rfl⟩
abbrev main_v631 : Ref sig .tc := ⟨.hbm, 709, rfl⟩
abbrev main_v632 : Ref sig .tc := ⟨.hbm, 710, rfl⟩
abbrev main_v633 : Ref sig .tc := ⟨.hbm, 711, rfl⟩
abbrev main_v634 : Ref sig .tc := ⟨.hbm, 712, rfl⟩
abbrev main_v635 : Ref sig .tc := ⟨.hbm, 713, rfl⟩
abbrev main_v636 : Ref sig .tc := ⟨.hbm, 714, rfl⟩
abbrev main_v637 : Ref sig .tc := ⟨.hbm, 715, rfl⟩
abbrev main_v638 : Ref sig .tc := ⟨.hbm, 716, rfl⟩
abbrev main_v639 : Ref sig .tc := ⟨.hbm, 717, rfl⟩
abbrev main_v640 : Ref sig .tc := ⟨.hbm, 718, rfl⟩
abbrev main_v641 : Ref sig .tc := ⟨.hbm, 719, rfl⟩
abbrev main_v642 : Ref sig .tc := ⟨.hbm, 720, rfl⟩
abbrev main_v643 : Ref sig .tc := ⟨.hbm, 721, rfl⟩
abbrev main_v644 : Ref sig .tc := ⟨.hbm, 722, rfl⟩
abbrev main_v645 : Ref sig .tc := ⟨.hbm, 723, rfl⟩
abbrev main_v646 : Ref sig .tc := ⟨.hbm, 724, rfl⟩
abbrev main_v647 : Ref sig .tc := ⟨.hbm, 725, rfl⟩
abbrev main_v648 : Ref sig .tc := ⟨.hbm, 726, rfl⟩
abbrev main_v649 : Ref sig .tc := ⟨.hbm, 727, rfl⟩
abbrev main_v650 : Ref sig .tc := ⟨.hbm, 728, rfl⟩
abbrev main_v651 : Ref sig .tc := ⟨.hbm, 729, rfl⟩
abbrev main_v652 : Ref sig .tc := ⟨.hbm, 730, rfl⟩
abbrev main_v653 : Ref sig .tc := ⟨.hbm, 731, rfl⟩
abbrev main_v654 : Ref sig .tc := ⟨.hbm, 732, rfl⟩
abbrev main_v655 : Ref sig .tc := ⟨.hbm, 733, rfl⟩
abbrev main_v656 : Ref sig .tc := ⟨.hbm, 734, rfl⟩
abbrev main_v657 : Ref sig .tc := ⟨.hbm, 735, rfl⟩
abbrev main_v658 : Ref sig .tc := ⟨.hbm, 736, rfl⟩
abbrev main_v659 : Ref sig .tc := ⟨.hbm, 737, rfl⟩
abbrev main_v660 : Ref sig .tc := ⟨.hbm, 738, rfl⟩
abbrev main_v661 : Ref sig .tc := ⟨.hbm, 739, rfl⟩
abbrev main_v662 : Ref sig .tc := ⟨.hbm, 740, rfl⟩
abbrev main_v663 : Ref sig .tc := ⟨.hbm, 741, rfl⟩
abbrev main_v664 : Ref sig .tc := ⟨.hbm, 742, rfl⟩
abbrev main_v665 : Ref sig .tc := ⟨.hbm, 743, rfl⟩
abbrev main_v666 : Ref sig .tc := ⟨.hbm, 744, rfl⟩
abbrev main_cst_66 : Ref sig .tc := ⟨.hbm, 745, rfl⟩
abbrev main_v667 : Ref sig .tc := ⟨.hbm, 746, rfl⟩
abbrev main_v668 : Ref sig .tc := ⟨.hbm, 747, rfl⟩
abbrev main_v669 : Ref sig .tc := ⟨.hbm, 748, rfl⟩
abbrev main_v670 : Ref sig .tc := ⟨.hbm, 749, rfl⟩
abbrev main_v671 : Ref sig .tc := ⟨.hbm, 750, rfl⟩
abbrev main_v672 : Ref sig .tc := ⟨.hbm, 751, rfl⟩
abbrev main_v673 : Ref sig .tc := ⟨.hbm, 752, rfl⟩
abbrev main_v674 : Ref sig .tc := ⟨.hbm, 753, rfl⟩
abbrev main_v675 : Ref sig .tc := ⟨.hbm, 754, rfl⟩
abbrev main_v676 : Ref sig .tc := ⟨.hbm, 755, rfl⟩
abbrev main_v677 : Ref sig .tc := ⟨.hbm, 756, rfl⟩
abbrev main_v678 : Ref sig .tc := ⟨.hbm, 757, rfl⟩
abbrev main_v679 : Ref sig .tc := ⟨.hbm, 758, rfl⟩
abbrev main_cst_67 : Ref sig .tc := ⟨.hbm, 759, rfl⟩
abbrev main_v680 : Ref sig .tc := ⟨.hbm, 760, rfl⟩
abbrev main_v681 : Ref sig .tc := ⟨.hbm, 761, rfl⟩
abbrev main_v682 : Ref sig .tc := ⟨.hbm, 762, rfl⟩
abbrev main_v683 : Ref sig .tc := ⟨.hbm, 763, rfl⟩
abbrev main_cst_68 : Ref sig .tc := ⟨.hbm, 764, rfl⟩
abbrev main_v684 : Ref sig .tc := ⟨.hbm, 765, rfl⟩
abbrev main_v685 : Ref sig .tc := ⟨.hbm, 766, rfl⟩
abbrev main_v686 : Ref sig .tc := ⟨.hbm, 767, rfl⟩
abbrev main_v687 : Ref sig .tc := ⟨.hbm, 768, rfl⟩
abbrev main_v688 : Ref sig .tc := ⟨.hbm, 769, rfl⟩
abbrev main_v689 : Ref sig .tc := ⟨.hbm, 770, rfl⟩
abbrev main_v690 : Ref sig .tc := ⟨.hbm, 771, rfl⟩
abbrev main_v691 : Ref sig .tc := ⟨.hbm, 772, rfl⟩
abbrev main_v692 : Ref sig .tc := ⟨.hbm, 773, rfl⟩
abbrev main_v693 : Ref sig .tc := ⟨.hbm, 774, rfl⟩
abbrev main_v694 : Ref sig .tc := ⟨.hbm, 775, rfl⟩
abbrev main_v695 : Ref sig .tc := ⟨.hbm, 776, rfl⟩
abbrev main_v696 : Ref sig .tc := ⟨.hbm, 777, rfl⟩
abbrev main_v697 : Ref sig .tc := ⟨.hbm, 778, rfl⟩
abbrev main_v698 : Ref sig .tc := ⟨.hbm, 779, rfl⟩
abbrev main_v699 : Ref sig .tc := ⟨.hbm, 780, rfl⟩
abbrev main_v700 : Ref sig .tc := ⟨.hbm, 781, rfl⟩
abbrev main_v701 : Ref sig .tc := ⟨.hbm, 782, rfl⟩
abbrev main_v702 : Ref sig .tc := ⟨.hbm, 783, rfl⟩
abbrev main_v703 : Ref sig .tc := ⟨.hbm, 784, rfl⟩
abbrev main_v704 : Ref sig .tc := ⟨.hbm, 785, rfl⟩
abbrev main_v705 : Ref sig .tc := ⟨.hbm, 786, rfl⟩
abbrev main_v706 : Ref sig .tc := ⟨.hbm, 787, rfl⟩
abbrev main_v707 : Ref sig .tc := ⟨.hbm, 788, rfl⟩
abbrev main_v708 : Ref sig .tc := ⟨.hbm, 789, rfl⟩
abbrev main_v709 : Ref sig .tc := ⟨.hbm, 790, rfl⟩
abbrev main_v710 : Ref sig .tc := ⟨.hbm, 791, rfl⟩
abbrev main_cst_69 : Ref sig .tc := ⟨.hbm, 792, rfl⟩
abbrev main_v711 : Ref sig .tc := ⟨.hbm, 793, rfl⟩
abbrev main_v712 : Ref sig .tc := ⟨.hbm, 794, rfl⟩
abbrev main_v713 : Ref sig .tc := ⟨.hbm, 795, rfl⟩
abbrev main_v714 : Ref sig .tc := ⟨.hbm, 796, rfl⟩
abbrev main_v715 : Ref sig .tc := ⟨.hbm, 797, rfl⟩
abbrev main_cst_70 : Ref sig .tc := ⟨.hbm, 798, rfl⟩
abbrev main_v716 : Ref sig .tc := ⟨.hbm, 799, rfl⟩
abbrev main_v717 : Ref sig .tc := ⟨.hbm, 800, rfl⟩
abbrev main_v718 : Ref sig .tc := ⟨.hbm, 801, rfl⟩
abbrev main_v719 : Ref sig .tc := ⟨.hbm, 802, rfl⟩
abbrev main_v720 : Ref sig .tc := ⟨.hbm, 803, rfl⟩
abbrev main_v721 : Ref sig .tc := ⟨.hbm, 804, rfl⟩
abbrev main_v722 : Ref sig .tc := ⟨.hbm, 805, rfl⟩
abbrev main_v723 : Ref sig .tc := ⟨.hbm, 806, rfl⟩
abbrev main_v724 : Ref sig .tc := ⟨.hbm, 807, rfl⟩
abbrev main_v725 : Ref sig .tc := ⟨.hbm, 808, rfl⟩
abbrev main_v726 : Ref sig .tc := ⟨.hbm, 809, rfl⟩
abbrev main_cst_71 : Ref sig .tc := ⟨.hbm, 810, rfl⟩
abbrev main_v727 : Ref sig .tc := ⟨.hbm, 811, rfl⟩
abbrev main_v728 : Ref sig .tc := ⟨.hbm, 812, rfl⟩
abbrev main_cst_72 : Ref sig .tc := ⟨.hbm, 813, rfl⟩
abbrev main_v729 : Ref sig .tc := ⟨.hbm, 814, rfl⟩
abbrev main_v730 : Ref sig .tc := ⟨.hbm, 815, rfl⟩
abbrev main_cst_73 : Ref sig .tc := ⟨.hbm, 816, rfl⟩
abbrev main_v731 : Ref sig .tc := ⟨.hbm, 817, rfl⟩
abbrev main_v732 : Ref sig .tc := ⟨.hbm, 818, rfl⟩
abbrev main_cst_74 : Ref sig .tc := ⟨.hbm, 819, rfl⟩
abbrev main_v733 : Ref sig .tc := ⟨.hbm, 820, rfl⟩
abbrev main_v734 : Ref sig .tc := ⟨.hbm, 821, rfl⟩
abbrev main_v735 : Ref sig .tc := ⟨.hbm, 822, rfl⟩
abbrev main_v736 : Ref sig .tc := ⟨.hbm, 823, rfl⟩
abbrev main_v737 : Ref sig .tc := ⟨.hbm, 824, rfl⟩
abbrev main_v738 : Ref sig .tc := ⟨.hbm, 825, rfl⟩
abbrev main_v739 : Ref sig .tc := ⟨.hbm, 826, rfl⟩
abbrev main_v740 : Ref sig .tc := ⟨.hbm, 827, rfl⟩
abbrev main_v741 : Ref sig .tc := ⟨.hbm, 828, rfl⟩
abbrev main_v742 : Ref sig .tc := ⟨.hbm, 829, rfl⟩
abbrev main_cst_75 : Ref sig .tc := ⟨.hbm, 830, rfl⟩
abbrev main_v743 : Ref sig .tc := ⟨.hbm, 831, rfl⟩
abbrev main_v744 : Ref sig .tc := ⟨.hbm, 832, rfl⟩
abbrev main_v745 : Ref sig .tc := ⟨.hbm, 833, rfl⟩
abbrev main_cst_76 : Ref sig .tc := ⟨.hbm, 834, rfl⟩
abbrev main_v746 : Ref sig .tc := ⟨.hbm, 835, rfl⟩
abbrev main_v747 : Ref sig .tc := ⟨.hbm, 836, rfl⟩
abbrev main_v748 : Ref sig .tc := ⟨.hbm, 837, rfl⟩
abbrev main_cst_77 : Ref sig .tc := ⟨.hbm, 838, rfl⟩
abbrev main_v749 : Ref sig .tc := ⟨.hbm, 839, rfl⟩
abbrev main_v750 : Ref sig .tc := ⟨.hbm, 840, rfl⟩
abbrev main_v751 : Ref sig .tc := ⟨.hbm, 841, rfl⟩
abbrev main_cst_78 : Ref sig .tc := ⟨.hbm, 842, rfl⟩
abbrev main_v752 : Ref sig .tc := ⟨.hbm, 843, rfl⟩
abbrev main_v753 : Ref sig .tc := ⟨.hbm, 844, rfl⟩
abbrev main_v754 : Ref sig .tc := ⟨.hbm, 845, rfl⟩
abbrev main_v755 : Ref sig .tc := ⟨.hbm, 846, rfl⟩
abbrev main_v756 : Ref sig .tc := ⟨.hbm, 847, rfl⟩
abbrev main_v757 : Ref sig .tc := ⟨.hbm, 848, rfl⟩
abbrev main_v758 : Ref sig .tc := ⟨.hbm, 849, rfl⟩
abbrev main_v759 : Ref sig .tc := ⟨.hbm, 850, rfl⟩
abbrev main_v760 : Ref sig .tc := ⟨.hbm, 851, rfl⟩

abbrev nD : Nat := 1
abbrev τ : Topo := Topo.v7x

variable {F : FTy → Type} [FloatOps F]
-- ==== Proof.KernelRun.lean ====
module

public import proofs.«01_k».proof.Proof.Gen.KernelIdeal.Frame

@[expose] public section

set_option maxRecDepth 16384

noncomputable section

/-! The kernel program's run, with what every buffer holds at its end. -/

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every buffer at what the last host operations leave in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ => h)

end Cert.KernelIdeal.Value

end
-- ==== Proof.Spec.lean ====
module

public import Idealize.ShloMosaic.Lib.Pointwise

@[expose] public section

set_option maxRecDepth 16384

noncomputable section

/-! The mathematics of the head at one position of a feature map, over the extended reals. -/

namespace Cert.Spec

open Idealize.ShloMosaic

/-- Channel `o` of the 3x3 convolution at a position, from the nine values `T ky kx` of every channel
    around it and the weights `W`: the nine products over the channels, summed from the left. -/
def conv (T : Fin 3 → Fin 3 → Fin 96 → EReal) (W : Fin 96 → Fin 96 → Fin 3 → Fin 3 → EReal) (o : Fin 96) : EReal :=
  (∑ k, W o k 0 0 * T 0 0 k) + (∑ k, W o k 0 1 * T 0 1 k) + (∑ k, W o k 0 2 * T 0 2 k)
    + (∑ k, W o k 1 0 * T 1 0 k) + (∑ k, W o k 1 1 * T 1 1 k) + (∑ k, W o k 1 2 * T 1 2 k)
    + (∑ k, W o k 2 0 * T 2 0 k) + (∑ k, W o k 2 1 * T 2 1 k) + (∑ k, W o k 2 2 * T 2 2 k)

/-- The hidden feature: the convolution, its bias, and the positive part. -/
def hidden (T : Fin 3 → Fin 3 → Fin 96 → EReal) (W : Fin 96 → Fin 96 → Fin 3 → Fin 3 → EReal) (b : Fin 96 → EReal)
    (o : Fin 96) : EReal :=
  max (conv T W o + b o) 0

/-- The four deltas of one anchor: weights `R`, biases `c`. -/
def delta (h : Fin 96 → EReal) (R : Fin 4 → Fin 96 → EReal) (c : Fin 4 → EReal) (i : Fin 4) : EReal :=
  (∑ k, R i k * h k) + c i

/-- The side of a box: the anchor's side times the exponential of the clipped delta. -/
def side (s d : EReal) : EReal :=
  s * Ideal.exp (min (Ideal.ofBits .f32 0x40845349#32) (max (Ideal.ofBits .f32 0xC0845349#32) d))

/-- One half. -/
def half : EReal := Ideal.ofBits .f32 0x3F000000#32

/-- The box of an anchor of sides `w`, `h` centred at `(x, y)` under the deltas `d`: its two corners. -/
def box (d : Fin 4 → EReal) (w h x y : EReal) : Fin 4 → EReal :=
  ![(d 0 * w + x) - half * side w (d 2), (d 1 * h + y) - half * side h (d 3),
    (d 0 * w + x) + half * side w (d 2), (d 1 * h + y) + half * side h (d 3)]

/-- The three horizontal neighbours of lane `l` as the kernel reads them off a slab `s` of 2048 lanes: the slab
    rotated by one lane either way, times the mask of that side, and the slab itself. -/
def tap (s : Fin 2048 → EReal) (ml mr : EReal) (l : Fin 2048) : Fin 3 → EReal :=
  ![(if h : (l : ℕ) < 1 then s ⟨2047 + l, by omega⟩ else s ⟨l - 1, by omega⟩) * ml, s l,
    (if h : (l : ℕ) < 2047 then s ⟨1 + l, by omega⟩ else s ⟨l - 2047, by omega⟩) * mr]

/-- A feature map `f` with a border of zeros one position wide, read at row `i` and column `j` of the bordered map. -/
def padded {H W : ℕ} (f : Fin 96 → Fin H → Fin W → EReal) (k : Fin 96) (i j : ℕ) : EReal :=
  if h : (1 ≤ i ∧ i < H + 1) ∧ 1 ≤ j ∧ j < W + 1 then f k ⟨i - 1, by omega⟩ ⟨j - 1, by omega⟩ else 0

end Cert.Spec

end
-- ==== Proof.Level.lean ====
module

public import proofs.«01_k».proof.Proof.Spec
public import Idealize.ShloMosaic.Lib.KernelVsHost

@[expose] public section

noncomputable section

/-! One pyramid level of the boxes, and a feature map padded with zeros read at an index. -/

namespace Cert.Spec

open Idealize.ShloMosaic

/-- The deltas of anchor `a` at row `y`, column `x` of the map `f`: the hidden feature of the zero-padded map's
    3x3 neighbourhood, through the four rows of the second weights that are the anchor's. -/
def deltas {H W : ℕ} (f : Fin 96 → Fin H → Fin W → EReal) (V : Fin 96 → Fin 96 → Fin 3 → Fin 3 → EReal) (b : Fin 96 → EReal)
    (R : Fin 36 → Fin 96 → EReal) (c : Fin 36 → EReal) (y x : ℕ) (a : Fin 9) : Fin 4 → EReal :=
  delta (hidden (fun ky kx k => padded f k (y + ky) (x + kx)) V b) (fun i k => R ⟨a * 4 + i, by omega⟩ k) fun i => c ⟨a * 4 + i, by omega⟩

/-- The words of the widths of the nine anchors of level 0; a level further each doubles. -/
def width (l : ℕ) (a : Fin 9) : BitVec 32 :=
  (![0x423504F3#32, 0x42B504F3#32, 0x433504F3#32, 0x42000000#32, 0x42800000#32, 0x43000000#32, 0x41B504F3#32, 0x423504F3#32,
    0x42B504F3#32] : Fin 9 → BitVec 32) a + BitVec.ofNat 32 (l * 2 ^ 23)

/-- The words of the heights of the nine anchors. -/
def height (l : ℕ) (a : Fin 9) : BitVec 32 :=
  (![0x41B504F3#32, 0x423504F3#32, 0x42B504F3#32, 0x42000000#32, 0x42800000#32, 0x43000000#32, 0x423504F3#32, 0x42B504F3#32,
    0x433504F3#32] : Fin 9 → BitVec 32) a + BitVec.ofNat 32 (l * 2 ^ 23)

/-- The position of row or column `i` of level `l`, whose stride is `4 * 2 ^ l`. -/
def pos (l i : ℕ) : EReal := (((i * (4 * 2 ^ l) : ℕ) : ℝ) : EReal)

/-- The box of anchor `a` at row `y`, column `x` of level `l`, whose map is `f`. -/
def level (l : ℕ) {H W : ℕ} (f : Fin 96 → Fin H → Fin W → EReal) (V : Fin 96 → Fin 96 → Fin 3 → Fin 3 → EReal) (b : Fin 96 → EReal)
    (R : Fin 36 → Fin 96 → EReal) (c : Fin 36 → EReal) (y x : ℕ) (a : Fin 9) : Fin 4 → EReal :=
  box (deltas f V b R c y x a) (Ideal.ofBits .f32 (width l a)) (Ideal.ofBits .f32 (height l a)) (pos l x) (pos l y)

/-- A map of 96 channels padded by one zero on every side is `padded`. -/
theorem pad_border {H W H' W' : ℕ} (x : FVec Ideal ⟨4, ![2, 96, H, W]⟩ .f32) {u : Shape} (v : FVec Ideal u .f32)
    (h : Shape.Pads ⟨4, ![2, 96, H, W]⟩ ![0, 0, 1, 1] ![0, 0, 1, 1] ![0, 0, 0, 0] ⟨4, ![2, 96, H', W']⟩) (hu : 0 < u.numel)
    (hv : v (Shape.Idx.first hu) = 0) (b : Fin 2) (k : Fin 96) (i : Fin H') (j : Fin W') :
    pad ⟨4, ![2, 96, H', W']⟩ ![0, 0, 1, 1] ![0, 0, 1, 1] ![0, 0, 0, 0] x v h hu (ix4 b k i j)
      = padded (fun k i j => x (ix4 b k i j)) k i j := by
  unfold padded
  split
  · rename_i hin
    refine pad_apply_of_inside _ _ _ x v h hu _ _ fun a => ?_
    match a with
    | 0 => simp
    | 1 => simp
    | 2 => simp; omega
    | 3 => simp; omega
  · rename_i hin
    by_cases hi : 1 ≤ (i : ℕ) ∧ (i : ℕ) < H + 1
    · refine (pad_apply_of_not_inside _ _ _ x v h hu _ 3 fun hc => hin ?_).trans hv
      simp at hc; omega
    · refine (pad_apply_of_not_inside _ _ _ x v h hu _ 2 fun hc => hi ?_).trans hv
      simp at hc; omega

end Cert.Spec

end
-- ==== Proof.Words.lean ====
module

public import Idealize.ShloMosaic.Lib.Pointwise

@[expose] public section

noncomputable section

/-! Which numbers the single-precision words of the tables denote. -/

namespace Cert.Words

open Idealize.ShloMosaic

/-- The exponent field of a single-precision word. -/
abbrev expo (b : BitVec 32) : ℕ := (b.extractLsb' 23 8).toNat

/-- The fraction field of a single-precision word. -/
abbrev frac (b : BitVec 32) : ℕ := (b.extractLsb' 0 23).toNat

/-- The sign of a single-precision word. -/
abbrev neg (b : BitVec 32) : Bool := b.extractLsb' 31 1 == 1#1

/-- The word is a normal number's: its exponent field neither all zeros nor all ones. -/
abbrev Normal (b : BitVec 32) : Prop := expo b ≠ 0 ∧ expo b ≠ 255

/-- The word is the one of the natural number `n`. -/
abbrev IsNat (b : BitVec 32) (n : ℕ) : Prop :=
  (b = 0#32 ∧ n = 0) ∨ (neg b = false ∧ Normal b ∧ (2 ^ 23 + frac b) * 2 ^ expo b = n * 2 ^ 150)

/-- A normal word denotes its sign times its significand times its power of two. -/
theorem ofBits_normal (b : BitVec 32) (h : Normal b) :
    Ideal.ofBits .f32 b
      = (((if neg b then -1 else 1) * ((2 ^ 23 + frac b : ℕ) : ℝ) * (2 : ℝ) ^ ((expo b : ℤ) - 150) : ℝ) : EReal) := by
  obtain ⟨h0, h1⟩ := h
  have e : (expo b : ℤ) - (2 ^ (8 - 1) - 1) - (23 : ℕ) = (expo b : ℤ) - 150 := by norm_num; ring
  show Ideal.ieee 8 23 b = _
  unfold Ideal.ieee
  simp only
  rw [if_neg (show ¬(expo b = 2 ^ 8 - 1) from h1), if_neg (show ¬(expo b = 0) from h0)]
  rw [show ((BitVec.extractLsb' 23 8 b).toNat : ℤ) - (2 ^ (8 - 1) - 1) - (23 : ℕ) = (expo b : ℤ) - 150 from e]

/-- The word of a natural number denotes it. -/
theorem ofBits_nat (b : BitVec 32) (n : ℕ) (h : IsNat b n) : Ideal.ofBits .f32 b = ((n : ℝ) : EReal) := by
  rcases h with ⟨rfl, rfl⟩ | ⟨hs, hn, he⟩
  · rw [Nat.cast_zero, EReal.coe_zero]; exact Ideal.ofBits_zero_f32
  · rw [ofBits_normal b hn, hs]
    congr 1
    have h2 : (2 : ℝ) ^ 150 ≠ 0 := by positivity
    rw [zpow_sub₀ (by norm_num), zpow_natCast, show ((2 : ℝ) ^ (150 : ℤ)) = (2 : ℝ) ^ 150 from by norm_cast]
    have he' : ((2 ^ 23 + frac b : ℕ) : ℝ) * 2 ^ expo b = n * 2 ^ 150 := by exact_mod_cast he
    rw [if_neg (by simp), one_mul, ← mul_div_assoc, he']
    field_simp

/-- The corners of a centred side: words of `-v`, of `v` and of `2 v`. -/
abbrev Corners (lo hi side : BitVec 32) : Prop :=
  neg lo = true ∧ neg hi = false ∧ neg side = false ∧ Normal lo ∧ Normal side ∧ Normal hi ∧ expo lo = expo hi ∧ expo side = expo hi + 1
    ∧ frac lo = frac hi ∧ frac side = frac hi

/-- Such words denote `-v`, `v` and `2 v` for a real `v`. -/
theorem ofBits_corners (lo hi side : BitVec 32) (h : Corners lo hi side) :
    ∃ v : ℝ, Ideal.ofBits .f32 lo = ((-v : ℝ) : EReal) ∧ Ideal.ofBits .f32 hi = (v : EReal)
      ∧ Ideal.ofBits .f32 side = ((2 * v : ℝ) : EReal) := by
  obtain ⟨nl, nh, ns, Nl, Ns, Nh, el, es, fl, fs⟩ := h
  refine ⟨((2 ^ 23 + frac hi : ℕ) : ℝ) * (2 : ℝ) ^ ((expo hi : ℤ) - 150), ?_, ?_, ?_⟩
  · rw [ofBits_normal lo Nl, nl, el, fl, if_pos rfl]; congr 1; ring
  · rw [ofBits_normal hi Nh, nh]; congr 1; simp
  · rw [ofBits_normal side Ns, ns, es, fs]; congr 1
    rw [show (((expo hi + 1 : ℕ) : ℤ) - 150) = ((expo hi : ℤ) - 150) + 1 by push_cast; ring, zpow_add_one₀ (by norm_num), if_neg (by simp)]
    ring

/-- The word of one half denotes it. -/
theorem ofBits_half : Ideal.ofBits .f32 0x3F000000#32 = (((1 / 2 : ℝ)) : EReal) := by
  rw [ofBits_normal _ (by decide)]
  congr 1
  rw [show neg 0x3F000000#32 = false from by decide, show frac 0x3F000000#32 = 0 from by decide, show expo 0x3F000000#32 = 126 from by decide]
  norm_num

/-- The side of a box whose corners are shifted by `x`: the difference of the corners. -/
theorem side_eq {lo hi side : BitVec 32} (h : Corners lo hi side) (x : ℝ) :
    ((x : EReal) + Ideal.ofBits .f32 hi) - ((x : EReal) + Ideal.ofBits .f32 lo) = Ideal.ofBits .f32 side := by
  obtain ⟨v, e1, e2, e3⟩ := ofBits_corners lo hi side h
  rw [e1, e2, e3, ← EReal.coe_add, ← EReal.coe_add, ← EReal.coe_sub]
  congr 1; ring

/-- The centre of a box whose corners are shifted by `x`: the lower corner and half the side. -/
theorem center_eq {lo hi side : BitVec 32} (h : Corners lo hi side) (x : ℝ) :
    ((x : EReal) + Ideal.ofBits .f32 lo) + Ideal.ofBits .f32 0x3F000000#32 * Ideal.ofBits .f32 side = (x : EReal) := by
  obtain ⟨v, e1, e2, e3⟩ := ofBits_corners lo hi side h
  rw [e1, e3, ofBits_half, ← EReal.coe_add, ← EReal.coe_mul, ← EReal.coe_add]
  congr 1; ring

/-- A row or column number as a word, converted and scaled by the stride: the product of the two numbers. -/
theorem shift_eq (n s : ℕ) (b : BitVec 32) (hn : n < 128) (hb : IsNat b s) :
    FloatOps.sitofp (F := Ideal) .f32 (BitVec.ofNat 32 n) * Ideal.ofBits .f32 b = (((n * s : ℕ) : ℝ) : EReal) := by
  rw [ofBits_nat b s hb]
  show (((BitVec.ofNat 32 n).toInt : ℝ) : EReal) * _ = _
  have : (BitVec.ofNat 32 n).toInt = (n : ℤ) := by
    rw [BitVec.toInt_eq_toNat_of_lt] <;> rw [BitVec.toNat_ofNat, Nat.mod_eq_of_lt (by omega)]; omega
  rw [this, ← EReal.coe_mul]
  congr 1; push_cast; rfl

end Cert.Words

end
-- ==== Proof.RefCommon.lean ====
module

public import proofs.«01_k».proof.ReferenceIdeal
public import proofs.«01_k».proof.Proof.Level
public import proofs.«01_k».proof.Proof.Words

@[expose] public section

noncomputable section

/-! What the reference's five levels share: the deltas its arguments give, and its anchors' centre and size. -/

namespace Cert.ReferenceIdeal.Value

open Idealize.ShloMosaic Idealize.ShloMosaic.TcCoe Cert.ReferenceIdeal

/-- The four deltas the specification gives at row `y`, column `x` and anchor `a` of image `b`, off the map `f`. -/
def dl (V0 : Valuation τ sig (Elt Ideal)) {H W : ℕ} (f : FVec Ideal ⟨4, ![2, 96, H, W]⟩ .f32) (b : Fin 2) (y x : ℕ) (a : Fin 9) :
    Fin 4 → EReal :=
  Spec.deltas (fun k i j => f (ix4 b k i j))
    (fun o k ky kx => (V0 (Proc.devRef .tc main_arg5) : FVec Ideal S96x96x3x3 .f32) (ix4 o k ky kx))
    (fun o => (V0 (Proc.devRef .tc main_arg6) : FVec Ideal S96 .f32) (ix1 o))
    (fun i k => (V0 (Proc.devRef .tc main_arg9) : FVec Ideal S36x96x1x1 .f32) (ix4 i k 0 0))
    (fun i => (V0 (Proc.devRef .tc main_arg10) : FVec Ideal S36 .f32) (ix1 i)) y x a

/-- The specification's box at row `y`, column `x` and anchor `a` of image `b` of level `l`, off the map `f`. -/
def lv (V0 : Valuation τ sig (Elt Ideal)) (l : ℕ) {H W : ℕ} (f : FVec Ideal ⟨4, ![2, 96, H, W]⟩ .f32) (b : Fin 2) (y x : ℕ) (a : Fin 9) :
    Fin 4 → EReal :=
  Spec.box (dl V0 f b y x a) (Ideal.ofBits .f32 (Spec.width l a)) (Ideal.ofBits .f32 (Spec.height l a)) (Spec.pos l x) (Spec.pos l y)

/-- A grid index times the stride of its level is its position. -/
theorem shift_pos (l i : ℕ) (b : BitVec 32) (hi : i < 128) (hb : Words.IsNat b (4 * 2 ^ l)) :
    FloatOps.sitofp (F := Ideal) .f32 (BitVec.ofNat 32 i) * Ideal.ofBits .f32 b = Spec.pos l i :=
  Words.shift_eq i _ b hi hb

/-- A delta times an anchor's side plus the anchor's centre, both taken from its corners `A` and `B`. -/
def mid (d A B : EReal) : EReal := d * (B - A) + (A + Ideal.ofBits .f32 0x3F000000#32 * (B - A))

/-- An anchor's side, taken from its corners, scaled by the exponential of a clipped delta. -/
def ext (d A B : EReal) : EReal :=
  (B - A) * Ideal.exp (min (max d (Ideal.ofBits .f32 0xC0845349#32)) (Ideal.ofBits .f32 0x40845349#32))

/-- `mid` at the corners of an anchor of side `s` at position `i`. -/
theorem mid_pos {lo hi s : BitVec 32} (h : Words.Corners lo hi s) {l i : ℕ} {D d A B : EReal} (hd : D = d)
    (hA : A = Spec.pos l i + Ideal.ofBits .f32 lo) (hB : B = Spec.pos l i + Ideal.ofBits .f32 hi) :
    mid D A B = d * Ideal.ofBits .f32 s + Spec.pos l i := by
  have hs : B - A = Ideal.ofBits .f32 s := by rw [hA, hB]; exact Words.side_eq h _
  rw [mid, hs, hA, hd]
  exact congrArg _ (Words.center_eq h _)

/-- `ext` at the corners of an anchor of side `s`. -/
theorem ext_pos {lo hi s : BitVec 32} (h : Words.Corners lo hi s) {l i : ℕ} {D d A B : EReal} (hd : D = d)
    (hA : A = Spec.pos l i + Ideal.ofBits .f32 lo) (hB : B = Spec.pos l i + Ideal.ofBits .f32 hi) :
    ext D A B = Spec.side (Ideal.ofBits .f32 s) d := by
  have hs : B - A = Ideal.ofBits .f32 s := by rw [hA, hB]; exact Words.side_eq h _
  rw [ext, hs, hd, Spec.side, min_comm, max_comm d]

/-- The nine shifted products a reference convolution adds, in its order. -/
def taps (T : Fin 96 → ℕ → ℕ → EReal) (W : Fin 96 → Fin 3 → Fin 3 → EReal) (i j : ℕ) : EReal :=
  (∑ k, T k i j * W k 0 0) + (∑ k, T k i (1 + j) * W k 0 1) + (∑ k, T k i (2 + j) * W k 0 2)
    + (∑ k, T k (1 + i) j * W k 1 0) + (∑ k, T k (1 + i) (1 + j) * W k 1 1) + (∑ k, T k (1 + i) (2 + j) * W k 1 2)
    + (∑ k, T k (2 + i) j * W k 2 0) + (∑ k, T k (2 + i) (1 + j) * W k 2 1) + (∑ k, T k (2 + i) (2 + j) * W k 2 2)

/-- They are the specification's convolution. -/
theorem taps_eq (T : Fin 96 → ℕ → ℕ → EReal) (W : Fin 96 → Fin 96 → Fin 3 → Fin 3 → EReal) (o : Fin 96) (i j : ℕ) :
    taps T (W o) i j = Spec.conv (fun ky kx k => T k (i + ky) (j + kx)) W o := by
  have h (p q : ℕ) (ky kx : Fin 3) (hp : p = i + ky) (hq : q = j + kx) :
      ∑ k, T k p q * W o k ky kx = ∑ k, W o k ky kx * T k (i + ky) (j + kx) := by
    subst hp hq
    exact Finset.sum_congr rfl fun k _ => mul_comm _ _
  rw [taps, h i j 0 0 rfl rfl, h i (1 + j) 0 1 rfl (Nat.add_comm _ _), h i (2 + j) 0 2 rfl (Nat.add_comm _ _),
    h (1 + i) j 1 0 (Nat.add_comm _ _) rfl, h (1 + i) (1 + j) 1 1 (Nat.add_comm _ _) (Nat.add_comm _ _),
    h (1 + i) (2 + j) 1 2 (Nat.add_comm _ _) (Nat.add_comm _ _), h (2 + i) j 2 0 (Nat.add_comm _ _) rfl,
    h (2 + i) (1 + j) 2 1 (Nat.add_comm _ _) (Nat.add_comm _ _), h (2 + i) (2 + j) 2 2 (Nat.add_comm _ _) (Nat.add_comm _ _)]
  rfl

/-- A feature plus its bias. -/
def biased (x c : EReal) : EReal := x + c

/-- A feature kept from going under zero. -/
def relu (x : EReal) : EReal := max x 0

/-- The reference's second product: features through the second weights, plus the second bias. -/
def second (h R : Fin 96 → EReal) (e : EReal) : EReal := (∑ k, h k * R k) + e

/-- It is the specification's delta off the features. -/
theorem second_eq {h h' : Fin 96 → EReal} (hh : ∀ k, h k = h' k) (R : Fin 96 → EReal) (e : EReal) :
    second h R e = (∑ k, R k * h' k) + e :=
  congrArg (· + e) (Finset.sum_congr rfl fun k _ => by rw [hh k]; exact mul_comm _ _)

/-! ### The columns of an array of boxes, for any number `N` of boxes -/

section Columns

variable {N : ℕ} (h : Shape.ShapeCasts ⟨3, ![2, N, 1]⟩ ⟨2, ![2, N]⟩)
  (hb : Shape.BroadcastsInDim S_ ⟨2, ![2, N]⟩ ![])

/-- Column `i` of an array of boxes. -/
def column (D : FVec Ideal ⟨3, ![2, N, 4]⟩ .f32) (i : Fin 4) (hi : Shape.Slices ⟨3, ![2, N, 4]⟩ ![0, 0, (i : ℕ)] ⟨3, ![2, N, 1]⟩) :
    FVec Ideal ⟨2, ![2, N]⟩ .f32 :=
  shapeCast ⟨2, ![2, N]⟩ (extractStridedSlice ⟨3, ![2, N, 1]⟩ ![0, 0, (i : ℕ)] D hi) h

/-- A column read at box `n` of image `b`. -/
theorem column_at (D : FVec Ideal ⟨3, ![2, N, 4]⟩ .f32) (i : Fin 4) (hi) (b : Fin 2) (n : Fin N) :
    column h D i hi (ix2 b n) = D (ix3 b n i) := by
  have e : Shape.reshapeEquiv h (ix2 b n) = (ix3 b n 0 : Shape.Idx ⟨3, ![2, N, 1]⟩) := by
    refine (Shape.rowMajor _).injective (Fin.ext ((Shape.rowMajor_reshapeEquiv h _).trans ?_))
    rw [Shape.rowMajor_val_two, Shape.rowMajor_val_three]
    simp
  show extractStridedSlice ⟨3, ![2, N, 1]⟩ ![0, 0, (i : ℕ)] D hi (Shape.reshapeEquiv h (ix2 b n)) = _
  rw [e]
  refine congrArg D (funext fun a => ?_)
  match a with
  | 0 => exact Fin.ext (Nat.zero_add _)
  | 1 => exact Fin.ext (Nat.zero_add _)
  | 2 => exact Fin.ext (Nat.add_zero _)

/-- The centre's computation off the deltas `D` and the anchors `A`, at a box. -/
theorem mid_at (D A : FVec Ideal ⟨3, ![2, N, 4]⟩ .f32) (i j : Fin 4) (hi hj) (b : Fin 2) (n : Fin N) :
    addf (mulf (column h D i hi) (subf (column h A j hj) (column h A i hi))) (addf (column h A i hi)
        (mulf (broadcastInDim ⟨2, ![2, N]⟩ ![] hb (constant S_ .f32 0x3F000000#32)) (subf (column h A j hj) (column h A i hi)))) (ix2 b n)
      = mid (D (ix3 b n i)) (A (ix3 b n i)) (A (ix3 b n j)) :=
  (rfl : _ = mid (column h D i hi (ix2 b n)) (column h A i hi (ix2 b n)) (column h A j hj (ix2 b n))).trans
    (by rw [column_at, column_at, column_at])

/-- The side's computation, at a box. -/
theorem ext_at (D A : FVec Ideal ⟨3, ![2, N, 4]⟩ .f32) (i j k : Fin 4) (hi hj hk) (b : Fin 2) (n : Fin N) :
    mulf (subf (column h A j hj) (column h A i hi))
        (Host.exp (minimumf (maximumf (column h D k hk) (broadcastInDim ⟨2, ![2, N]⟩ ![] hb (constant S_ .f32 0xC0845349#32)))
          (broadcastInDim ⟨2, ![2, N]⟩ ![] hb (constant S_ .f32 0x40845349#32)))) (ix2 b n)
      = ext (D (ix3 b n k)) (A (ix3 b n i)) (A (ix3 b n j)) :=
  (rfl : _ = ext (column h D k hk (ix2 b n)) (column h A i hi (ix2 b n)) (column h A j hj (ix2 b n))).trans
    (by rw [column_at, column_at, column_at])

/-- A flat array made a column, at a box. -/
theorem stand_at (h1 : Shape.BroadcastsInDim ⟨2, ![2, N]⟩ ⟨3, ![2, N, 1]⟩ ![0, 1]) (Z : FVec Ideal ⟨2, ![2, N]⟩ .f32) (b : Fin 2)
    (n : Fin N) : broadcastInDim ⟨3, ![2, N, 1]⟩ ![0, 1] h1 Z (ix3 b n 0) = Z (ix2 b n) := by
  refine congrArg Z (funext fun a => Fin.ext ?_)
  match a with
  | 0 => rfl
  | 1 =>
    by_cases hN : N = 1
    · subst hN; simp
    · simp [hN]

/-- Four columns set side by side. -/
theorem beside_at (hc : Shape.Concatenates [⟨3, ![2, N, 1]⟩, ⟨3, ![2, N, 1]⟩, ⟨3, ![2, N, 1]⟩, ⟨3, ![2, N, 1]⟩] ⟨3, ![2, N, 4]⟩ 2)
    (X Y P Q : FVec Ideal ⟨3, ![2, N, 1]⟩ .f32) (b : Fin 2) (n : Fin N) (c : Fin 4) :
    concatenate ⟨3, ![2, N, 4]⟩ 2 [⟨⟨3, ![2, N, 1]⟩, X⟩, ⟨⟨3, ![2, N, 1]⟩, Y⟩, ⟨⟨3, ![2, N, 1]⟩, P⟩, ⟨⟨3, ![2, N, 1]⟩, Q⟩] hc (ix3 b n c)
      = (![X (ix3 b n 0), Y (ix3 b n 0), P (ix3 b n 0), Q (ix3 b n 0)] : Fin 4 → EReal) c := by
  fin_cases c <;> pointwise <;> refine congrArg _ (funext fun a => ?_) <;> match a with
    | 0 => rfl
    | 1 => rfl
    | 2 => rfl

/-- The four corners set side by side, off the centres `X`, `Y` and the sides `P`, `Q`. -/
def corners (h1 : Shape.BroadcastsInDim ⟨2, ![2, N]⟩ ⟨3, ![2, N, 1]⟩ ![0, 1])
    (hc : Shape.Concatenates [⟨3, ![2, N, 1]⟩, ⟨3, ![2, N, 1]⟩, ⟨3, ![2, N, 1]⟩, ⟨3, ![2, N, 1]⟩] ⟨3, ![2, N, 4]⟩ 2)
    (X Y P Q : FVec Ideal ⟨2, ![2, N]⟩ .f32) : FVec Ideal ⟨3, ![2, N, 4]⟩ .f32 :=
  concatenate ⟨3, ![2, N, 4]⟩ 2
    [⟨⟨3, ![2, N, 1]⟩, broadcastInDim ⟨3, ![2, N, 1]⟩ ![0, 1] h1 (subf X (mulf (broadcastInDim ⟨2, ![2, N]⟩ ![] hb (constant S_ .f32 0x3F000000#32)) P))⟩,
      ⟨⟨3, ![2, N, 1]⟩, broadcastInDim ⟨3, ![2, N, 1]⟩ ![0, 1] h1 (subf Y (mulf (broadcastInDim ⟨2, ![2, N]⟩ ![] hb (constant S_ .f32 0x3F000000#32)) Q))⟩,
      ⟨⟨3, ![2, N, 1]⟩, broadcastInDim ⟨3, ![2, N, 1]⟩ ![0, 1] h1 (addf X (mulf (broadcastInDim ⟨2, ![2, N]⟩ ![] hb (constant S_ .f32 0x3F000000#32)) P))⟩,
      ⟨⟨3, ![2, N, 1]⟩, broadcastInDim ⟨3, ![2, N, 1]⟩ ![0, 1] h1 (addf Y (mulf (broadcastInDim ⟨2, ![2, N]⟩ ![] hb (constant S_ .f32 0x3F000000#32)) Q))⟩]
    hc

/-- They are the specification's box, when the centres and the sides are the specification's. -/
theorem corners_at (h1 : Shape.BroadcastsInDim ⟨2, ![2, N]⟩ ⟨3, ![2, N, 1]⟩ ![0, 1]) (hc) {X Y P Q : FVec Ideal ⟨2, ![2, N]⟩ .f32}
    {b : Fin 2} {n : Fin N} {d : Fin 4 → EReal} {w h x y : EReal} (hX : X (ix2 b n) = d 0 * w + x) (hY : Y (ix2 b n) = d 1 * h + y)
    (hP : P (ix2 b n) = Spec.side w (d 2)) (hQ : Q (ix2 b n) = Spec.side h (d 3)) (c : Fin 4) :
    corners hb h1 hc X Y P Q (ix3 b n c) = Spec.box d w h x y c := by
  rw [corners, beside_at, stand_at, stand_at, stand_at, stand_at, Spec.box, ← hX, ← hY, ← hP, ← hQ]
  rfl

end Columns

end Cert.ReferenceIdeal.Value

end
-- ==== Proof.RefLevel0.lean ====
module

public import proofs.«01_k».proof.Proof.Gen.ReferenceIdeal.Run
public import proofs.«01_k».proof.Proof.RefCommon

@[expose] public section

set_option maxRecDepth 16384

noncomputable section

/-! The reference's boxes of level 0 (maps of 128 by 128), read at an index. -/

namespace Cert.ReferenceIdeal.Value

open Idealize.ShloMosaic Idealize.ShloMosaic.TcCoe Cert.ReferenceIdeal

variable (V0 : Valuation τ sig (Elt Ideal))

/-- The level's feature map. -/
def map0 : FVec Ideal S2x96x128x128 .f32 := V0 (Proc.devRef .tc main_arg0)

/-- The padded map. -/
theorem padded0 (b : Fin 2) (k : Fin 96) (i j : Fin 130) :
    res_main_v0 V0 (ix4 b k i j) = Spec.padded (fun k i j => map0 V0 (ix4 b k i j)) k i j :=
  Spec.pad_border (map0 V0) _ _ _ Ideal.ofBits_zero_f32 b k i j

set_option maxHeartbeats 4000000 in
/-- The convolution. -/
theorem conv0 (b : Fin 2) (o : Fin 96) (i j : Fin 128) :
    res_main_v55 V0 (ix4 b o i j)
      = Spec.conv (fun ky kx k => Spec.padded (fun k i j => map0 V0 (ix4 b k i j)) k (i + ky) (j + kx))
        (fun o k ky kx => (V0 (Proc.devRef .tc main_arg5) : FVec Ideal S96x96x3x3 .f32) (ix4 o k ky kx)) o := by
  refine Eq.trans ?_ (taps_eq (Spec.padded fun k i j => map0 V0 (ix4 b k i j)) _ o i j)
  have hQ := padded0 V0 b
  generalize Spec.padded (fun k i j => map0 V0 (ix4 b k i j)) = T at *
  unfold res_main_v55
  generalize res_main_v0 V0 = Q at *
  generalize V0 (Proc.devRef .tc main_arg5) = W
  revert Q W
  intro (Q : FVec Ideal S2x96x130x130 .f32) hQ (W : FVec Ideal S96x96x3x3 .f32)
  pointwise
  simp only [hQ, taps]

set_option maxHeartbeats 4000000 in
/-- The deltas. -/
theorem delta0 (b : Fin 2) (n : Fin 147456) (c : Fin 4) :
    res_main_v69 V0 (ix3 b n c) = dl V0 (map0 V0) b (n / 1152) (n / 9 % 128) ⟨n % 9, by omega⟩ c := by
  refine Eq.trans (b := second (fun k => relu (biased (res_main_v55 V0 (ix4 b k ⟨n / 1152, by omega⟩ ⟨n / 9 % 128, by omega⟩))
      ((V0 (Proc.devRef .tc main_arg6) : FVec Ideal S96 .f32) (ix1 k))))
    (fun k => (V0 (Proc.devRef .tc main_arg9) : FVec Ideal S36x96x1x1 .f32) (ix4 ⟨n % 9 * 4 + c, by omega⟩ k 0 0))
    ((V0 (Proc.devRef .tc main_arg10) : FVec Ideal S36 .f32) (ix1 ⟨n % 9 * 4 + c, by omega⟩))) ?_
    (second_eq (fun k => congrArg (fun z => relu (biased z _)) (conv0 V0 b k _ _)) _ _)
  unfold res_main_v69
  generalize res_main_v55 V0 = C
  pointwise [second, relu, biased]

/-- The stride of level 0 is the number 4. -/
theorem stride0 : Words.IsNat 0x40800000#32 (4 * 2 ^ 0) := by decide +kernel

set_option maxHeartbeats 4000000 in
/-- The anchors: a position plus a corner. -/
theorem anchor0 (b : Fin 2) (n : Fin 147456) :
    let q (c : Fin 4) := Ideal.ofBits .f32 (lit0 (S9x4.rowMajor (ix2 ⟨n % 9, by omega⟩ c)))
    res_main_v90 V0 (ix3 b n 0) = Spec.pos 0 (n / 9 % 128) + q 0 ∧ res_main_v90 V0 (ix3 b n 1) = Spec.pos 0 (n / 1152) + q 1
      ∧ res_main_v90 V0 (ix3 b n 2) = Spec.pos 0 (n / 9 % 128) + q 2 ∧ res_main_v90 V0 (ix3 b n 3) = Spec.pos 0 (n / 1152) + q 3 := by
  refine ⟨?_, ?_, ?_, ?_⟩ <;>
    (pointwise [res_main_v90, res_main_v73, res_main_v77]
     rw [shift_pos 0 _ _ ?_ stride0]
     omega)

/-- The anchors' corners are half their sides either way. -/
theorem corners0 : ∀ a : Fin 9, Words.Corners (lit0 (S9x4.rowMajor (ix2 a 0))) (lit0 (S9x4.rowMajor (ix2 a 2))) (Spec.width 0 a)
    ∧ Words.Corners (lit0 (S9x4.rowMajor (ix2 a 1))) (lit0 (S9x4.rowMajor (ix2 a 3))) (Spec.height 0 a) := by
  decide +kernel

/-- The boxes. -/
theorem box0 (h1 hc) (b : Fin 2) (n : Fin 147456) (c : Fin 4) :
    corners Gen.bcast_S_S2x147456 h1 hc (res_main_v128 V0) (res_main_v130 V0) (res_main_v132 V0) (res_main_v134 V0) (ix3 b n c)
      = lv V0 0 (map0 V0) b (n / 1152) (n / 9 % 128) ⟨n % 9, by omega⟩ c := by
  obtain ⟨hw, hh⟩ := corners0 ⟨n % 9, by omega⟩
  obtain ⟨e0, e1, e2, e3⟩ := anchor0 V0 b n
  have d := delta0 V0 b n
  exact corners_at _ h1 hc
    ((mid_at Gen.shapeCasts_S2x147456x1_S2x147456 _ (res_main_v69 V0) (res_main_v90 V0) 0 2 _ _ b n).trans (mid_pos hw (d 0) e0 e2))
    ((mid_at Gen.shapeCasts_S2x147456x1_S2x147456 _ (res_main_v69 V0) (res_main_v90 V0) 1 3 _ _ b n).trans (mid_pos hh (d 1) e1 e3))
    ((ext_at Gen.shapeCasts_S2x147456x1_S2x147456 _ (res_main_v69 V0) (res_main_v90 V0) 0 2 2 _ _ _ b n).trans (ext_pos hw (d 2) e0 e2))
    ((ext_at Gen.shapeCasts_S2x147456x1_S2x147456 _ (res_main_v69 V0) (res_main_v90 V0) 1 3 3 _ _ _ b n).trans (ext_pos hh (d 3) e1 e3)) c

end Cert.ReferenceIdeal.Value

end
-- ==== Proof.RefLevel1.lean ====
module

public import proofs.«01_k».proof.Proof.Gen.ReferenceIdeal.Run
public import proofs.«01_k».proof.Proof.RefCommon

@[expose] public section

set_option maxRecDepth 16384

noncomputable section

/-! The reference's boxes of level 1 (maps of 64 by 64), read at an index. -/

namespace Cert.ReferenceIdeal.Value

open Idealize.ShloMosaic Idealize.ShloMosaic.TcCoe Cert.ReferenceIdeal

variable (V0 : Valuation τ sig (Elt Ideal))

/-- The level's feature map. -/
def map1 : FVec Ideal S2x96x64x64 .f32 := V0 (Proc.devRef .tc main_arg1)

/-- The padded map. -/
theorem padded1 (b : Fin 2) (k : Fin 96) (i j : Fin 66) :
    res_main_v152 V0 (ix4 b k i j) = Spec.padded (fun k i j => map1 V0 (ix4 b k i j)) k i j :=
  Spec.pad_border (map1 V0) _ _ _ Ideal.ofBits_zero_f32 b k i j

set_option maxHeartbeats 4000000 in
/-- The convolution and its bias. -/
theorem conv1 (b : Fin 2) (o : Fin 96) (i j : Fin 64) :
    res_main_v210 V0 (ix4 b o i j)
      = biased (Spec.conv (fun ky kx k => Spec.padded (fun k i j => map1 V0 (ix4 b k i j)) k (i + ky) (j + kx))
        (fun o k ky kx => (V0 (Proc.devRef .tc main_arg5) : FVec Ideal S96x96x3x3 .f32) (ix4 o k ky kx)) o)
          ((V0 (Proc.devRef .tc main_arg6) : FVec Ideal S96 .f32) (ix1 o)) := by
  refine Eq.trans ?_ (congrArg (fun z => biased z _) (taps_eq (Spec.padded fun k i j => map1 V0 (ix4 b k i j)) _ o i j))
  have hQ := padded1 V0 b
  generalize Spec.padded (fun k i j => map1 V0 (ix4 b k i j)) = T at *
  unfold res_main_v210
  generalize res_main_v152 V0 = Q at *
  generalize V0 (Proc.devRef .tc main_arg5) = W
  revert Q W
  intro (Q : FVec Ideal S2x96x66x66 .f32) hQ (W : FVec Ideal S96x96x3x3 .f32)
  pointwise
  simp only [hQ, taps, biased]

set_option maxHeartbeats 4000000 in
/-- The deltas. -/
theorem delta1 (b : Fin 2) (n : Fin 36864) (c : Fin 4) :
    res_main_v221 V0 (ix3 b n c) = dl V0 (map1 V0) b (n / 576) (n / 9 % 64) ⟨n % 9, by omega⟩ c := by
  refine Eq.trans (b := second (fun k => relu (res_main_v210 V0 (ix4 b k ⟨n / 576, by omega⟩ ⟨n / 9 % 64, by omega⟩)))
    (fun k => (V0 (Proc.devRef .tc main_arg9) : FVec Ideal S36x96x1x1 .f32) (ix4 ⟨n % 9 * 4 + c, by omega⟩ k 0 0))
    ((V0 (Proc.devRef .tc main_arg10) : FVec Ideal S36 .f32) (ix1 ⟨n % 9 * 4 + c, by omega⟩))) ?_
    (second_eq (fun k => congrArg relu (conv1 V0 b k _ _)) _ _)
  unfold res_main_v221
  generalize res_main_v210 V0 = C
  pointwise [second, relu]

/-- The stride of level 1 is the number 8. -/
theorem stride1 : Words.IsNat 0x41000000#32 (4 * 2 ^ 1) := by decide +kernel

set_option maxHeartbeats 4000000 in
/-- The anchors: a position plus a corner. -/
theorem anchor1 (b : Fin 2) (n : Fin 36864) :
    let q (c : Fin 4) := Ideal.ofBits .f32 (lit1 (S9x4.rowMajor (ix2 ⟨n % 9, by omega⟩ c)))
    res_main_v242 V0 (ix3 b n 0) = Spec.pos 1 (n / 9 % 64) + q 0 ∧ res_main_v242 V0 (ix3 b n 1) = Spec.pos 1 (n / 576) + q 1
      ∧ res_main_v242 V0 (ix3 b n 2) = Spec.pos 1 (n / 9 % 64) + q 2 ∧ res_main_v242 V0 (ix3 b n 3) = Spec.pos 1 (n / 576) + q 3 := by
  refine ⟨?_, ?_, ?_, ?_⟩ <;>
    (pointwise [res_main_v242, res_main_v225, res_main_v229]
     rw [shift_pos 1 _ _ ?_ stride1]
     omega)

/-- The anchors' corners are half their sides either way. -/
theorem corners1 : ∀ a : Fin 9, Words.Corners (lit1 (S9x4.rowMajor (ix2 a 0))) (lit1 (S9x4.rowMajor (ix2 a 2))) (Spec.width 1 a)
    ∧ Words.Corners (lit1 (S9x4.rowMajor (ix2 a 1))) (lit1 (S9x4.rowMajor (ix2 a 3))) (Spec.height 1 a) := by
  decide +kernel

/-- The boxes. -/
theorem box1 (h1 hc) (b : Fin 2) (n : Fin 36864) (c : Fin 4) :
    corners Gen.bcast_S_S2x36864 h1 hc (res_main_v280 V0) (res_main_v282 V0) (res_main_v284 V0) (res_main_v286 V0) (ix3 b n c)
      = lv V0 1 (map1 V0) b (n / 576) (n / 9 % 64) ⟨n % 9, by omega⟩ c := by
  obtain ⟨hw, hh⟩ := corners1 ⟨n % 9, by omega⟩
  obtain ⟨e0, e1, e2, e3⟩ := anchor1 V0 b n
  have d := delta1 V0 b n
  exact corners_at _ h1 hc
    ((mid_at Gen.shapeCasts_S2x36864x1_S2x36864 _ (res_main_v221 V0) (res_main_v242 V0) 0 2 _ _ b n).trans (mid_pos hw (d 0) e0 e2))
    ((mid_at Gen.shapeCasts_S2x36864x1_S2x36864 _ (res_main_v221 V0) (res_main_v242 V0) 1 3 _ _ b n).trans (mid_pos hh (d 1) e1 e3))
    ((ext_at Gen.shapeCasts_S2x36864x1_S2x36864 _ (res_main_v221 V0) (res_main_v242 V0) 0 2 2 _ _ _ b n).trans (ext_pos hw (d 2) e0 e2))
    ((ext_at Gen.shapeCasts_S2x36864x1_S2x36864 _ (res_main_v221 V0) (res_main_v242 V0) 1 3 3 _ _ _ b n).trans (ext_pos hh (d 3) e1 e3)) c

end Cert.ReferenceIdeal.Value

end
-- ==== Proof.RefLevel2.lean ====
module

public import proofs.«01_k».proof.Proof.Gen.ReferenceIdeal.Run
public import proofs.«01_k».proof.Proof.RefCommon

@[expose] public section

set_option maxRecDepth 16384

noncomputable section

/-! The reference's boxes of level 2 (maps of 32 by 32), read at an index. -/

namespace Cert.ReferenceIdeal.Value

open Idealize.ShloMosaic Idealize.ShloMosaic.TcCoe Cert.ReferenceIdeal

variable (V0 : Valuation τ sig (Elt Ideal))

/-- The level's feature map. -/
def map2 : FVec Ideal S2x96x32x32 .f32 := V0 (Proc.devRef .tc main_arg2)

/-- The padded map. -/
theorem padded2 (b : Fin 2) (k : Fin 96) (i j : Fin 34) :
    res_main_v304 V0 (ix4 b k i j) = Spec.padded (fun k i j => map2 V0 (ix4 b k i j)) k i j :=
  Spec.pad_border (map2 V0) _ _ _ Ideal.ofBits_zero_f32 b k i j

set_option maxHeartbeats 4000000 in
/-- The convolution and its bias. -/
theorem conv2 (b : Fin 2) (o : Fin 96) (i j : Fin 32) :
    res_main_v362 V0 (ix4 b o i j)
      = biased (Spec.conv (fun ky kx k => Spec.padded (fun k i j => map2 V0 (ix4 b k i j)) k (i + ky) (j + kx))
        (fun o k ky kx => (V0 (Proc.devRef .tc main_arg5) : FVec Ideal S96x96x3x3 .f32) (ix4 o k ky kx)) o)
          ((V0 (Proc.devRef .tc main_arg6) : FVec Ideal S96 .f32) (ix1 o)) := by
  refine Eq.trans ?_ (congrArg (fun z => biased z _) (taps_eq (Spec.padded fun k i j => map2 V0 (ix4 b k i j)) _ o i j))
  have hQ := padded2 V0 b
  generalize Spec.padded (fun k i j => map2 V0 (ix4 b k i j)) = T at *
  unfold res_main_v362
  generalize res_main_v304 V0 = Q at *
  generalize V0 (Proc.devRef .tc main_arg5) = W
  revert Q W
  intro (Q : FVec Ideal S2x96x34x34 .f32) hQ (W : FVec Ideal S96x96x3x3 .f32)
  pointwise
  simp only [hQ, taps, biased]

set_option maxHeartbeats 4000000 in
/-- The deltas. -/
theorem delta2 (b : Fin 2) (n : Fin 9216) (c : Fin 4) :
    res_main_v373 V0 (ix3 b n c) = dl V0 (map2 V0) b (n / 288) (n / 9 % 32) ⟨n % 9, by omega⟩ c := by
  refine Eq.trans (b := second (fun k => relu (res_main_v362 V0 (ix4 b k ⟨n / 288, by omega⟩ ⟨n / 9 % 32, by omega⟩)))
    (fun k => (V0 (Proc.devRef .tc main_arg9) : FVec Ideal S36x96x1x1 .f32) (ix4 ⟨n % 9 * 4 + c, by omega⟩ k 0 0))
    ((V0 (Proc.devRef .tc main_arg10) : FVec Ideal S36 .f32) (ix1 ⟨n % 9 * 4 + c, by omega⟩))) ?_
    (second_eq (fun k => congrArg relu (conv2 V0 b k _ _)) _ _)
  unfold res_main_v373
  generalize res_main_v362 V0 = C
  pointwise [second, relu]

/-- The stride of level 2 is the number 16. -/
theorem stride2 : Words.IsNat 0x41800000#32 (4 * 2 ^ 2) := by decide +kernel

set_option maxHeartbeats 4000000 in
/-- The anchors: a position plus a corner. -/
theorem anchor2 (b : Fin 2) (n : Fin 9216) :
    let q (c : Fin 4) := Ideal.ofBits .f32 (lit2 (S9x4.rowMajor (ix2 ⟨n % 9, by omega⟩ c)))
    res_main_v394 V0 (ix3 b n 0) = Spec.pos 2 (n / 9 % 32) + q 0 ∧ res_main_v394 V0 (ix3 b n 1) = Spec.pos 2 (n / 288) + q 1
      ∧ res_main_v394 V0 (ix3 b n 2) = Spec.pos 2 (n / 9 % 32) + q 2 ∧ res_main_v394 V0 (ix3 b n 3) = Spec.pos 2 (n / 288) + q 3 := by
  refine ⟨?_, ?_, ?_, ?_⟩ <;>
    (pointwise [res_main_v394, res_main_v377, res_main_v381]
     rw [shift_pos 2 _ _ ?_ stride2]
     omega)

/-- The anchors' corners are half their sides either way. -/
theorem corners2 : ∀ a : Fin 9, Words.Corners (lit2 (S9x4.rowMajor (ix2 a 0))) (lit2 (S9x4.rowMajor (ix2 a 2))) (Spec.width 2 a)
    ∧ Words.Corners (lit2 (S9x4.rowMajor (ix2 a 1))) (lit2 (S9x4.rowMajor (ix2 a 3))) (Spec.height 2 a) := by
  decide +kernel

/-- The boxes. -/
theorem box2 (h1 hc) (b : Fin 2) (n : Fin 9216) (c : Fin 4) :
    corners Gen.bcast_S_S2x9216 h1 hc (res_main_v432 V0) (res_main_v434 V0) (res_main_v436 V0) (res_main_v438 V0) (ix3 b n c)
      = lv V0 2 (map2 V0) b (n / 288) (n / 9 % 32) ⟨n % 9, by omega⟩ c := by
  obtain ⟨hw, hh⟩ := corners2 ⟨n % 9, by omega⟩
  obtain ⟨e0, e1, e2, e3⟩ := anchor2 V0 b n
  have d := delta2 V0 b n
  exact corners_at _ h1 hc
    ((mid_at Gen.shapeCasts_S2x9216x1_S2x9216 _ (res_main_v373 V0) (res_main_v394 V0) 0 2 _ _ b n).trans (mid_pos hw (d 0) e0 e2))
    ((mid_at Gen.shapeCasts_S2x9216x1_S2x9216 _ (res_main_v373 V0) (res_main_v394 V0) 1 3 _ _ b n).trans (mid_pos hh (d 1) e1 e3))
    ((ext_at Gen.shapeCasts_S2x9216x1_S2x9216 _ (res_main_v373 V0) (res_main_v394 V0) 0 2 2 _ _ _ b n).trans (ext_pos hw (d 2) e0 e2))
    ((ext_at Gen.shapeCasts_S2x9216x1_S2x9216 _ (res_main_v373 V0) (res_main_v394 V0) 1 3 3 _ _ _ b n).trans (ext_pos hh (d 3) e1 e3)) c

end Cert.ReferenceIdeal.Value

end
-- ==== Proof.RefLevel3.lean ====
module

public import proofs.«01_k».proof.Proof.Gen.ReferenceIdeal.Run
public import proofs.«01_k».proof.Proof.RefCommon

@[expose] public section

set_option maxRecDepth 16384

noncomputable section

/-! The reference's boxes of level 3 (maps of 16 by 16), read at an index. -/

namespace Cert.ReferenceIdeal.Value

open Idealize.ShloMosaic Idealize.ShloMosaic.TcCoe Cert.ReferenceIdeal

variable (V0 : Valuation τ sig (Elt Ideal))

/-- The level's feature map. -/
def map3 : FVec Ideal S2x96x16x16 .f32 := V0 (Proc.devRef .tc main_arg3)

/-- The padded map. -/
theorem padded3 (b : Fin 2) (k : Fin 96) (i j : Fin 18) :
    res_main_v456 V0 (ix4 b k i j) = Spec.padded (fun k i j => map3 V0 (ix4 b k i j)) k i j :=
  Spec.pad_border (map3 V0) _ _ _ Ideal.ofBits_zero_f32 b k i j

set_option maxHeartbeats 4000000 in
/-- The convolution and its bias. -/
theorem conv3 (b : Fin 2) (o : Fin 96) (i j : Fin 16) :
    res_main_v514 V0 (ix4 b o i j)
      = biased (Spec.conv (fun ky kx k => Spec.padded (fun k i j => map3 V0 (ix4 b k i j)) k (i + ky) (j + kx))
        (fun o k ky kx => (V0 (Proc.devRef .tc main_arg5) : FVec Ideal S96x96x3x3 .f32) (ix4 o k ky kx)) o)
          ((V0 (Proc.devRef .tc main_arg6) : FVec Ideal S96 .f32) (ix1 o)) := by
  refine Eq.trans ?_ (congrArg (fun z => biased z _) (taps_eq (Spec.padded fun k i j => map3 V0 (ix4 b k i j)) _ o i j))
  have hQ := padded3 V0 b
  generalize Spec.padded (fun k i j => map3 V0 (ix4 b k i j)) = T at *
  unfold res_main_v514
  generalize res_main_v456 V0 = Q at *
  generalize V0 (Proc.devRef .tc main_arg5) = W
  revert Q W
  intro (Q : FVec Ideal S2x96x18x18 .f32) hQ (W : FVec Ideal S96x96x3x3 .f32)
  pointwise
  simp only [hQ, taps, biased]

set_option maxHeartbeats 4000000 in
/-- The deltas. -/
theorem delta3 (b : Fin 2) (n : Fin 2304) (c : Fin 4) :
    res_main_v525 V0 (ix3 b n c) = dl V0 (map3 V0) b (n / 144) (n / 9 % 16) ⟨n % 9, by omega⟩ c := by
  refine Eq.trans (b := second (fun k => relu (res_main_v514 V0 (ix4 b k ⟨n / 144, by omega⟩ ⟨n / 9 % 16, by omega⟩)))
    (fun k => (V0 (Proc.devRef .tc main_arg9) : FVec Ideal S36x96x1x1 .f32) (ix4 ⟨n % 9 * 4 + c, by omega⟩ k 0 0))
    ((V0 (Proc.devRef .tc main_arg10) : FVec Ideal S36 .f32) (ix1 ⟨n % 9 * 4 + c, by omega⟩))) ?_
    (second_eq (fun k => congrArg relu (conv3 V0 b k _ _)) _ _)
  unfold res_main_v525
  generalize res_main_v514 V0 = C
  pointwise [second, relu]

/-- The stride of level 3 is the number 32. -/
theorem stride3 : Words.IsNat 0x42000000#32 (4 * 2 ^ 3) := by decide +kernel

set_option maxHeartbeats 4000000 in
/-- The anchors: a position plus a corner. -/
theorem anchor3 (b : Fin 2) (n : Fin 2304) :
    let q (c : Fin 4) := Ideal.ofBits .f32 (lit3 (S9x4.rowMajor (ix2 ⟨n % 9, by omega⟩ c)))
    res_main_v546 V0 (ix3 b n 0) = Spec.pos 3 (n / 9 % 16) + q 0 ∧ res_main_v546 V0 (ix3 b n 1) = Spec.pos 3 (n / 144) + q 1
      ∧ res_main_v546 V0 (ix3 b n 2) = Spec.pos 3 (n / 9 % 16) + q 2 ∧ res_main_v546 V0 (ix3 b n 3) = Spec.pos 3 (n / 144) + q 3 := by
  refine ⟨?_, ?_, ?_, ?_⟩ <;>
    (pointwise [res_main_v546, res_main_v529, res_main_v533]
     rw [shift_pos 3 _ _ ?_ stride3]
     omega)

/-- The anchors' corners are half their sides either way. -/
theorem corners3 : ∀ a : Fin 9, Words.Corners (lit3 (S9x4.rowMajor (ix2 a 0))) (lit3 (S9x4.rowMajor (ix2 a 2))) (Spec.width 3 a)
    ∧ Words.Corners (lit3 (S9x4.rowMajor (ix2 a 1))) (lit3 (S9x4.rowMajor (ix2 a 3))) (Spec.height 3 a) := by
  decide +kernel

/-- The boxes. -/
theorem box3 (h1 hc) (b : Fin 2) (n : Fin 2304) (c : Fin 4) :
    corners Gen.bcast_S_S2x2304 h1 hc (res_main_v584 V0) (res_main_v586 V0) (res_main_v588 V0) (res_main_v590 V0) (ix3 b n c)
      = lv V0 3 (map3 V0) b (n / 144) (n / 9 % 16) ⟨n % 9, by omega⟩ c := by
  obtain ⟨hw, hh⟩ := corners3 ⟨n % 9, by omega⟩
  obtain ⟨e0, e1, e2, e3⟩ := anchor3 V0 b n
  have d := delta3 V0 b n
  exact corners_at _ h1 hc
    ((mid_at Gen.shapeCasts_S2x2304x1_S2x2304 _ (res_main_v525 V0) (res_main_v546 V0) 0 2 _ _ b n).trans (mid_pos hw (d 0) e0 e2))
    ((mid_at Gen.shapeCasts_S2x2304x1_S2x2304 _ (res_main_v525 V0) (res_main_v546 V0) 1 3 _ _ b n).trans (mid_pos hh (d 1) e1 e3))
    ((ext_at Gen.shapeCasts_S2x2304x1_S2x2304 _ (res_main_v525 V0) (res_main_v546 V0) 0 2 2 _ _ _ b n).trans (ext_pos hw (d 2) e0 e2))
    ((ext_at Gen.shapeCasts_S2x2304x1_S2x2304 _ (res_main_v525 V0) (res_main_v546 V0) 1 3 3 _ _ _ b n).trans (ext_pos hh (d 3) e1 e3)) c

end Cert.ReferenceIdeal.Value

end
-- ==== Proof.RefLevel4.lean ====
module

public import proofs.«01_k».proof.Proof.Gen.ReferenceIdeal.Run
public import proofs.«01_k».proof.Proof.RefCommon

@[expose] public section

set_option maxRecDepth 16384

noncomputable section

/-! The reference's boxes of level 4 (maps of 8 by 8), read at an index. -/

namespace Cert.ReferenceIdeal.Value

open Idealize.ShloMosaic Idealize.ShloMosaic.TcCoe Cert.ReferenceIdeal

variable (V0 : Valuation τ sig (Elt Ideal))

/-- The level's feature map. -/
def map4 : FVec Ideal S2x96x8x8 .f32 := V0 (Proc.devRef .tc main_arg4)

/-- The padded map. -/
theorem padded4 (b : Fin 2) (k : Fin 96) (i j : Fin 10) :
    res_main_v608 V0 (ix4 b k i j) = Spec.padded (fun k i j => map4 V0 (ix4 b k i j)) k i j :=
  Spec.pad_border (map4 V0) _ _ _ Ideal.ofBits_zero_f32 b k i j

set_option maxHeartbeats 4000000 in
/-- The hidden feature. -/
theorem hidden4 (b : Fin 2) (o : Fin 96) (i j : Fin 8) :
    res_main_v668 V0 (ix4 b o i j)
      = Spec.hidden (fun ky kx k => Spec.padded (fun k i j => map4 V0 (ix4 b k i j)) k (i + ky) (j + kx))
        (fun o k ky kx => (V0 (Proc.devRef .tc main_arg5) : FVec Ideal S96x96x3x3 .f32) (ix4 o k ky kx))
        (fun o => (V0 (Proc.devRef .tc main_arg6) : FVec Ideal S96 .f32) (ix1 o)) o := by
  refine Eq.trans ?_ (congrArg (fun z => relu (biased z _)) (taps_eq (Spec.padded fun k i j => map4 V0 (ix4 b k i j)) _ o i j))
  have hQ := padded4 V0 b
  generalize Spec.padded (fun k i j => map4 V0 (ix4 b k i j)) = T at *
  unfold res_main_v668
  generalize res_main_v608 V0 = Q at *
  generalize V0 (Proc.devRef .tc main_arg5) = W
  revert Q W
  intro (Q : FVec Ideal S2x96x10x10 .f32) hQ (W : FVec Ideal S96x96x3x3 .f32)
  pointwise
  simp only [hQ, taps, relu, biased]

set_option maxHeartbeats 4000000 in
/-- The deltas. -/
theorem delta4 (b : Fin 2) (n : Fin 576) (c : Fin 4) :
    res_main_v677 V0 (ix3 b n c) = dl V0 (map4 V0) b (n / 72) (n / 9 % 8) ⟨n % 9, by omega⟩ c := by
  refine Eq.trans (b := second (fun k => res_main_v668 V0 (ix4 b k ⟨n / 72, by omega⟩ ⟨n / 9 % 8, by omega⟩))
    (fun k => (V0 (Proc.devRef .tc main_arg9) : FVec Ideal S36x96x1x1 .f32) (ix4 ⟨n % 9 * 4 + c, by omega⟩ k 0 0))
    ((V0 (Proc.devRef .tc main_arg10) : FVec Ideal S36 .f32) (ix1 ⟨n % 9 * 4 + c, by omega⟩))) ?_
    (second_eq (fun k => hidden4 V0 b k _ _) _ _)
  unfold res_main_v677
  generalize res_main_v668 V0 = C
  pointwise [second]

/-- The stride of level 4 is the number 64. -/
theorem stride4 : Words.IsNat 0x42800000#32 (4 * 2 ^ 4) := by decide +kernel

set_option maxHeartbeats 4000000 in
/-- The anchors: a position plus a corner. -/
theorem anchor4 (b : Fin 2) (n : Fin 576) :
    let q (c : Fin 4) := Ideal.ofBits .f32 (lit4 (S9x4.rowMajor (ix2 ⟨n % 9, by omega⟩ c)))
    res_main_v698 V0 (ix3 b n 0) = Spec.pos 4 (n / 9 % 8) + q 0 ∧ res_main_v698 V0 (ix3 b n 1) = Spec.pos 4 (n / 72) + q 1
      ∧ res_main_v698 V0 (ix3 b n 2) = Spec.pos 4 (n / 9 % 8) + q 2 ∧ res_main_v698 V0 (ix3 b n 3) = Spec.pos 4 (n / 72) + q 3 := by
  refine ⟨?_, ?_, ?_, ?_⟩ <;>
    (pointwise [res_main_v698, res_main_v681, res_main_v685]
     rw [shift_pos 4 _ _ ?_ stride4]
     omega)

/-- The anchors' corners are half their sides either way. -/
theorem corners4 : ∀ a : Fin 9, Words.Corners (lit4 (S9x4.rowMajor (ix2 a 0))) (lit4 (S9x4.rowMajor (ix2 a 2))) (Spec.width 4 a)
    ∧ Words.Corners (lit4 (S9x4.rowMajor (ix2 a 1))) (lit4 (S9x4.rowMajor (ix2 a 3))) (Spec.height 4 a) := by
  decide +kernel

/-- The boxes. -/
theorem box4 (h1 hc) (b : Fin 2) (n : Fin 576) (c : Fin 4) :
    corners Gen.bcast_S_S2x576 h1 hc (res_main_v736 V0) (res_main_v738 V0) (res_main_v740 V0) (res_main_v742 V0) (ix3 b n c)
      = lv V0 4 (map4 V0) b (n / 72) (n / 9 % 8) ⟨n % 9, by omega⟩ c := by
  obtain ⟨hw, hh⟩ := corners4 ⟨n % 9, by omega⟩
  obtain ⟨e0, e1, e2, e3⟩ := anchor4 V0 b n
  have d := delta4 V0 b n
  exact corners_at _ h1 hc
    ((mid_at Gen.shapeCasts_S2x576x1_S2x576 _ (res_main_v677 V0) (res_main_v698 V0) 0 2 _ _ b n).trans (mid_pos hw (d 0) e0 e2))
    ((mid_at Gen.shapeCasts_S2x576x1_S2x576 _ (res_main_v677 V0) (res_main_v698 V0) 1 3 _ _ b n).trans (mid_pos hh (d 1) e1 e3))
    ((ext_at Gen.shapeCasts_S2x576x1_S2x576 _ (res_main_v677 V0) (res_main_v698 V0) 0 2 2 _ _ _ b n).trans (ext_pos hw (d 2) e0 e2))
    ((ext_at Gen.shapeCasts_S2x576x1_S2x576 _ (res_main_v677 V0) (res_main_v698 V0) 1 3 3 _ _ _ b n).trans (ext_pos hh (d 3) e1 e3)) c

end Cert.ReferenceIdeal.Value

end
-- ==== Proof.Boxes.lean ====
module

public import proofs.«01_k».proof.Proof.Level

@[expose] public section

noncomputable section

/-! The whole result: the boxes of the five levels, one level after the other. -/

namespace Cert.Spec

open Idealize.ShloMosaic

section

variable (V : FVec Ideal ⟨4, ![96, 96, 3, 3]⟩ .f32) (u : FVec Ideal ⟨1, ![96]⟩ .f32) (R : FVec Ideal ⟨4, ![36, 96, 1, 1]⟩ .f32)
  (v : FVec Ideal ⟨1, ![36]⟩ .f32)

/-- Box `n` of image `b` of level `l`, whose maps `f` are `W` wide: nine anchors at each position, the positions row by row. -/
def levelBox (l : ℕ) {H W : ℕ} (f : FVec Ideal ⟨4, ![2, 96, H, W]⟩ .f32) (b : Fin 2) (n : ℕ) : Fin 4 → EReal :=
  level l (fun k i j => f (ix4 b k i j)) (fun o k ky kx => V (ix4 o k ky kx)) (fun o => u (ix1 o)) (fun i k => R (ix4 i k 0 0))
    (fun i => v (ix1 i)) (n / 9 / W) (n / 9 % W) ⟨n % 9, by omega⟩

/-- Box `n` of image `b`: of level 0 at first, then of levels 1, 2, 3 and 4. -/
def boxes (f0 : FVec Ideal ⟨4, ![2, 96, 128, 128]⟩ .f32) (f1 : FVec Ideal ⟨4, ![2, 96, 64, 64]⟩ .f32)
    (f2 : FVec Ideal ⟨4, ![2, 96, 32, 32]⟩ .f32) (f3 : FVec Ideal ⟨4, ![2, 96, 16, 16]⟩ .f32) (f4 : FVec Ideal ⟨4, ![2, 96, 8, 8]⟩ .f32)
    (b : Fin 2) (n : ℕ) : Fin 4 → EReal :=
  if n < 147456 then levelBox V u R v 0 f0 b n
  else if n < 184320 then levelBox V u R v 1 f1 b (n - 147456)
  else if n < 193536 then levelBox V u R v 2 f2 b (n - 184320)
  else if n < 195840 then levelBox V u R v 3 f3 b (n - 193536)
  else levelBox V u R v 4 f4 b (n - 195840)

end

end Cert.Spec

end
-- ==== Proof.RefResult.lean ====
module

public import proofs.«01_k».proof.Proof.RefLevel0
public import proofs.«01_k».proof.Proof.RefLevel1
public import proofs.«01_k».proof.Proof.RefLevel2
public import proofs.«01_k».proof.Proof.RefLevel3
public import proofs.«01_k».proof.Proof.RefLevel4
public import proofs.«01_k».proof.Proof.Boxes

@[expose] public section

set_option maxRecDepth 16384

noncomputable section

/-! The reference's result is the specification's boxes. -/

namespace Cert.ReferenceIdeal.Value

open Idealize.ShloMosaic Idealize.ShloMosaic.TcCoe Cert.ReferenceIdeal

/-- Five arrays of boxes one after the other, read at a box. -/
theorem stacked_at (A : FVec Ideal S2x147456x4 .f32) (B : FVec Ideal S2x36864x4 .f32) (C : FVec Ideal S2x9216x4 .f32)
    (D : FVec Ideal S2x2304x4 .f32) (E : FVec Ideal S2x576x4 .f32) (h) (b : Fin 2) (n : Fin 196416) (c : Fin 4) :
    concatenate S2x196416x4 1 [⟨S2x147456x4, A⟩, ⟨S2x36864x4, B⟩, ⟨S2x9216x4, C⟩, ⟨S2x2304x4, D⟩, ⟨S2x576x4, E⟩] h (ix3 b n c)
      = if h : (n : ℕ) < 147456 then A (ix3 b ⟨n, h⟩ c) else if h : (n : ℕ) - 147456 < 36864 then B (ix3 b ⟨n - 147456, h⟩ c)
        else if h : (n : ℕ) - 147456 - 36864 < 9216 then C (ix3 b ⟨n - 147456 - 36864, h⟩ c)
        else if h : (n : ℕ) - 147456 - 36864 - 9216 < 2304 then D (ix3 b ⟨n - 147456 - 36864 - 9216, h⟩ c)
        else E (ix3 b ⟨n - 147456 - 36864 - 9216 - 2304, by omega⟩ c) := by
  pointwise

variable (V0 : Valuation τ sig (Elt Ideal))

/-- A level's boxes are the specification's. -/
theorem lv_eq (l : ℕ) {H W : ℕ} (f : FVec Ideal ⟨4, ![2, 96, H, W]⟩ .f32) (b : Fin 2) (m k : ℕ) (hm : m = k) :
    lv V0 l f b (m / (9 * W)) (m / 9 % W) ⟨m % 9, by omega⟩
      = Spec.levelBox (V0 (Proc.devRef .tc main_arg5)) (V0 (Proc.devRef .tc main_arg6)) (V0 (Proc.devRef .tc main_arg9))
          (V0 (Proc.devRef .tc main_arg10)) l f b k := by
  subst hm
  rw [← Nat.div_div_eq_div_mul]
  rfl

/-- The reference's result. -/
theorem result_at (b : Fin 2) (n : Fin 196416) (c : Fin 4) :
    res_main_v760 V0 (ix3 b n c)
      = Spec.boxes (V0 (Proc.devRef .tc main_arg5)) (V0 (Proc.devRef .tc main_arg6)) (V0 (Proc.devRef .tc main_arg9))
          (V0 (Proc.devRef .tc main_arg10)) (map0 V0) (map1 V0) (map2 V0) (map3 V0) (map4 V0) b n c := by
  refine (stacked_at (corners _ _ _ (res_main_v128 V0) (res_main_v130 V0) (res_main_v132 V0) (res_main_v134 V0))
    (corners _ _ _ (res_main_v280 V0) (res_main_v282 V0) (res_main_v284 V0) (res_main_v286 V0))
    (corners _ _ _ (res_main_v432 V0) (res_main_v434 V0) (res_main_v436 V0) (res_main_v438 V0))
    (corners _ _ _ (res_main_v584 V0) (res_main_v586 V0) (res_main_v588 V0) (res_main_v590 V0))
    (corners _ _ _ (res_main_v736 V0) (res_main_v738 V0) (res_main_v740 V0) (res_main_v742 V0)) _ b n c).trans ?_
  rw [Spec.boxes]
  by_cases h0 : (n : ℕ) < 147456
  · rw [dif_pos h0, if_pos h0]
    exact (box0 V0 _ _ b _ c).trans (congrFun (lv_eq V0 0 (map0 V0) b _ _ rfl) c)
  rw [dif_neg h0, if_neg h0]
  by_cases h1 : (n : ℕ) < 184320
  · rw [dif_pos (by omega), if_pos h1]
    exact (box1 V0 _ _ b _ c).trans (congrFun (lv_eq V0 1 (map1 V0) b _ _ rfl) c)
  rw [dif_neg (by omega), if_neg h1]
  by_cases h2 : (n : ℕ) < 193536
  · rw [dif_pos (by omega), if_pos h2]
    exact (box2 V0 _ _ b _ c).trans (congrFun (lv_eq V0 2 (map2 V0) b (n - 147456 - 36864) _ (by omega)) c)
  rw [dif_neg (by omega), if_neg h2]
  by_cases h3 : (n : ℕ) < 195840
  · rw [dif_pos (by omega), if_pos h3]
    exact (box3 V0 _ _ b _ c).trans (congrFun (lv_eq V0 3 (map3 V0) b (n - 147456 - 36864 - 9216) _ (by omega)) c)
  rw [dif_neg (by omega), if_neg h3]
  exact (box4 V0 _ _ b _ c).trans (congrFun (lv_eq V0 4 (map4 V0) b (n - 147456 - 36864 - 9216 - 2304) _ (by omega)) c)

end Cert.ReferenceIdeal.Value

end
-- ==== Proof.Entry0.lean ====
module

public import proofs.«01_k».proof.Proof.Gen.KernelIdeal.Launch
public import Idealize.ShloMosaic.Lib.Pointwise
public import Idealize.ShloMosaic.Lib.StableHlo.ReadAt

@[expose] public section

set_option maxRecDepth 16384

noncomputable section

/-! The weights and tables as the first stretch of host operations leaves them. -/

namespace Cert.KernelIdeal.Value

open Idealize.ShloMosaic Idealize.ShloMosaic.TcCoe Idealize.ShloMosaic.StableHlo Cert.KernelIdeal Cert.KernelIdeal.Gen

variable (X : Valuation τ sig (Elt Ideal))

set_option maxHeartbeats 4000000 in
/-- The first weights, one matrix per tap. -/
theorem weights_at (t : Fin 9) (o k : Fin 96) :
    (after hostOps0 X (Proc.devRef .tc main_v2) : FVec Ideal S9x96x96 .bf16) (ix3 t o k)
      = (X (Proc.devRef .tc main_arg5) : FVec Ideal S96x96x3x3 .f32) (ix4 o k ⟨t / 3, by omega⟩ ⟨t % 3, by omega⟩) := by
  after_reads_simp
  generalize X (Proc.devRef .tc main_arg5) = A
  revert A; intro (A : FVec Ideal S96x96x3x3 .f32)
  clean_types
  pointwise

set_option maxHeartbeats 4000000 in
/-- The first bias. -/
theorem bias_at (o : Fin 96) :
    (after hostOps0 X (Proc.devRef .tc main_v3) : FVec Ideal S96x1 .f32) (ix2 o 0)
      = (X (Proc.devRef .tc main_arg6) : FVec Ideal S96 .f32) (ix1 o) := by
  after_reads_simp
  generalize X (Proc.devRef .tc main_arg6) = A
  revert A; intro (A : FVec Ideal S96 .f32)
  clean_types
  pointwise

/-- Four matrices set one under the other. -/
theorem stack_at (A0 A1 A2 A3 : FVec Ideal S1x9x96 .f32) (i : Fin 4) (a : Fin 9) (k : Fin 96) :
    truncf .bf16 (concatenate S4x9x96 0 [⟨S1x9x96, A0⟩, ⟨S1x9x96, A1⟩, ⟨S1x9x96, A2⟩, ⟨S1x9x96, A3⟩]
      concatenates_S1x9x96_S1x9x96_S1x9x96_S1x9x96_S4x9x96_d0) bitsLt_bf16_f32 (ix3 i a k)
      = ![A0, A1, A2, A3] i (ix3 0 a k) := by
  fin_cases i <;> pointwise <;> rfl

/-- Four rows set one under the other, as columns. -/
theorem stackColumn_at (A0 A1 A2 A3 : FVec Ideal S1x9 .f32) (i : Fin 4) (a : Fin 9) :
    shapeCast S4x9x1 (concatenate S4x9 0 [⟨S1x9, A0⟩, ⟨S1x9, A1⟩, ⟨S1x9, A2⟩, ⟨S1x9, A3⟩]
      concatenates_S1x9_S1x9_S1x9_S1x9_S4x9_d0) shapeCasts_S4x9_S4x9x1 (ix3 i a 0)
      = ![A0, A1, A2, A3] i (ix2 0 a) := by
  have e (B : FVec Ideal S4x9 .f32) : shapeCast S4x9x1 B shapeCasts_S4x9_S4x9x1 (ix3 i a 0) = B (ix2 i a) := by pointwise
  rw [e]
  fin_cases i <;> pointwise <;> rfl

set_option maxHeartbeats 4000000 in
/-- The second weights, one matrix per delta. -/
theorem rows_at (i : Fin 4) (a : Fin 9) (k : Fin 96) :
    (after hostOps0 X (Proc.devRef .tc main_v14) : FVec Ideal S4x9x96 .bf16) (ix3 i a k)
      = (X (Proc.devRef .tc main_arg9) : FVec Ideal S36x96x1x1 .f32) (ix4 ⟨a * 4 + i, by omega⟩ k 0 0) := by
  after_reads_simp
  refine (stack_at _ _ _ _ i a k).trans ?_
  fin_cases i
  on_goal 1 => change upto hostOps0 X 24 (Proc.devRef .tc main_v9) _ = _
  on_goal 2 => change upto hostOps0 X 24 (Proc.devRef .tc main_v10) _ = _
  on_goal 3 => change upto hostOps0 X 24 (Proc.devRef .tc main_v11) _ = _
  on_goal 4 => change upto hostOps0 X 24 (Proc.devRef .tc main_v12) _ = _
  all_goals
    after_reads_simp
    generalize X (Proc.devRef .tc main_arg9) = A
    revert A; intro (A : FVec Ideal S36x96x1x1 .f32)
    clean_types
    pointwise
    refine congrArg (fun j => A (ix4 j k 0 0)) (Fin.ext ?_)
    simp only; omega

set_option maxHeartbeats 4000000 in
/-- The second bias. -/
theorem shifts_at (i : Fin 4) (a : Fin 9) :
    (after hostOps0 X (Proc.devRef .tc main_v24) : FVec Ideal S4x9x1 .f32) (ix3 i a 0)
      = (X (Proc.devRef .tc main_arg10) : FVec Ideal S36 .f32) (ix1 ⟨a * 4 + i, by omega⟩) := by
  after_reads_simp
  clean_types
  refine (stackColumn_at _ _ _ _ i a).trans ?_
  fin_cases i
  on_goal 1 => change upto hostOps0 X 34 (Proc.devRef .tc main_v19) _ = _
  on_goal 2 => change upto hostOps0 X 34 (Proc.devRef .tc main_v20) _ = _
  on_goal 3 => change upto hostOps0 X 34 (Proc.devRef .tc main_v21) _ = _
  on_goal 4 => change upto hostOps0 X 34 (Proc.devRef .tc main_v22) _ = _
  all_goals
    after_reads_simp
    generalize X (Proc.devRef .tc main_arg10) = A
    revert A; intro (A : FVec Ideal S36 .f32)
    clean_types
    pointwise
    refine congrArg (fun j => A (ix1 j)) (Fin.ext ?_)
    simp only; omega

end Cert.KernelIdeal.Value

end
-- ==== Proof.Flat.lean ====
module

public import proofs.«01_k».proof.Proof.Level

@[expose] public section

set_option maxRecDepth 16384

noncomputable section

/-! A map with its rows laid end to end and padded by one row of zeros at both ends: its entries and its slices. -/

namespace Cert.Spec

open Idealize.ShloMosaic

/-- The zero every padding writes. -/
theorem zero_first {u : Shape} (i : u.Idx) : (sitofp .f32 (constantI u 32 0#32) : FVec Ideal u .f32) i = 0 := by
  show (((((0#32 : BitVec 32).toInt : ℤ) : ℝ)) : EReal) = 0
  simp

/-- The map with its rows laid end to end. -/
theorem flat_at {H W N : ℕ} (f : FVec Ideal ⟨4, ![2, 96, H, W]⟩ .f32)
    (hc : Shape.ShapeCasts ⟨4, ![2, 96, H, W]⟩ ⟨3, ![2, 96, N]⟩) (hN : N = H * W)
    (b : Fin 2) (k : Fin 96) (n : Fin N) (i : Fin H) (j : Fin W) (hn : (n : ℕ) = i * W + j) :
    shapeCast ⟨3, ![2, 96, N]⟩ f hc (ix3 b k n) = f (ix4 b k i j) := by
  have e : Shape.reshapeEquiv hc (ix3 b k n) = (ix4 b k i j : Shape.Idx ⟨4, ![2, 96, H, W]⟩) := by
    refine (Shape.rowMajor _).injective (Fin.ext ((Shape.rowMajor_reshapeEquiv hc _).trans ?_))
    rw [Shape.rowMajor_val_three, Shape.rowMajor_val_four]
    subst hN
    simp [hn]
    ring
  show f (Shape.reshapeEquiv hc (ix3 b k n)) = _
  rw [e]

/-- The map laid end to end and padded, read at a lane, is the bordered map. -/
theorem flat_border {H W N N' : ℕ} (f : FVec Ideal ⟨4, ![2, 96, H, W]⟩ .f32)
    (hc : Shape.ShapeCasts ⟨4, ![2, 96, H, W]⟩ ⟨3, ![2, 96, N]⟩) {u : Shape} (v : FVec Ideal u .f32)
    (h : Shape.Pads ⟨3, ![2, 96, N]⟩ ![0, 0, W] ![0, 0, W] ![0, 0, 0] ⟨3, ![2, 96, N']⟩) (hu : 0 < u.numel)
    (hv : v (Shape.Idx.first hu) = 0) (hN : N = H * W) (hW : 0 < W) (b : Fin 2) (k : Fin 96) (P : Fin N')
    (r c : ℕ) (hP : (P : ℕ) = r * W + c) (hcW : c < W) :
    pad ⟨3, ![2, 96, N']⟩ ![0, 0, W] ![0, 0, W] ![0, 0, 0] (shapeCast ⟨3, ![2, 96, N]⟩ f hc) v h hu (ix3 b k P)
      = padded (fun k i j => f (ix4 b k i j)) k r (c + 1) := by
  unfold padded
  have hmul : (H + 1) * W = H * W + W := by ring
  split
  · rename_i hin
    have h1 : r - 1 < H := by omega
    have hr : (r - 1) * W + W = r * W := by
      obtain ⟨s, rfl⟩ : ∃ s, r = s + 1 := ⟨r - 1, by omega⟩
      simp; ring
    have h2 : (r - 1) * W + c < N := by
      have : (r - 1 + 1) * W ≤ H * W := Nat.mul_le_mul_right W (by omega)
      rw [Nat.add_mul] at this
      omega
    refine (pad_apply_of_inside _ _ _ _ v h hu _ (ix3 b k ⟨(r - 1) * W + c, h2⟩) fun a => ?_).trans
      (flat_at f hc hN b k _ ⟨r - 1, h1⟩ ⟨c, hcW⟩ rfl)
    match a with
    | 0 => simp
    | 1 => simp
    | 2 => simp; omega
  · rename_i hin
    refine (pad_apply_of_not_inside _ _ _ _ v h hu _ 2 fun hx => hin ?_).trans hv
    simp at hx
    have h3 : 1 ≤ r := by
      by_contra h0
      have : r = 0 := by omega
      subst this; omega
    refine ⟨⟨h3, ?_⟩, by omega⟩
    by_contra h4
    have : (H + 1) * W ≤ r * W := Nat.mul_le_mul_right W (by omega)
    omega

/-- A slice of lanes. -/
theorem lanes_at {N N' o : ℕ} (A : FVec Ideal ⟨3, ![2, 96, N']⟩ .f32) (h : Shape.Slices ⟨3, ![2, 96, N']⟩ ![0, 0, o] ⟨3, ![2, 96, N]⟩)
    (b : Fin 2) (k : Fin 96) (q : Fin N) (hq : o + q < N') :
    extractStridedSlice ⟨3, ![2, 96, N]⟩ ![0, 0, o] A h (ix3 b k q) = A (ix3 b k ⟨o + q, hq⟩) := by
  refine congrArg A (funext fun a => ?_)
  match a with
  | 0 => exact Fin.ext (Nat.zero_add _)
  | 1 => exact Fin.ext (Nat.zero_add _)
  | 2 => rfl

/-- The slice that starts `ky` rows into the padded lanes is the bordered map, `ky` rows further down. -/
theorem slab_at {H W N N' o : ℕ} (f : FVec Ideal ⟨4, ![2, 96, H, W]⟩ .f32)
    (hc : Shape.ShapeCasts ⟨4, ![2, 96, H, W]⟩ ⟨3, ![2, 96, N]⟩) {u : Shape} (v : FVec Ideal u .f32)
    (h : Shape.Pads ⟨3, ![2, 96, N]⟩ ![0, 0, W] ![0, 0, W] ![0, 0, 0] ⟨3, ![2, 96, N']⟩) (hu : 0 < u.numel)
    (hs : Shape.Slices ⟨3, ![2, 96, N']⟩ ![0, 0, o] ⟨3, ![2, 96, N]⟩)
    (hv : v (Shape.Idx.first hu) = 0) (hN : N = H * W) (hW : 0 < W) (ky : ℕ) (ho : o = ky * W) (hN' : o + N ≤ N')
    (b : Fin 2) (k : Fin 96) (q : Fin N) :
    extractStridedSlice ⟨3, ![2, 96, N]⟩ ![0, 0, o]
      (pad ⟨3, ![2, 96, N']⟩ ![0, 0, W] ![0, 0, W] ![0, 0, 0] (shapeCast ⟨3, ![2, 96, N]⟩ f hc) v h hu) hs (ix3 b k q)
      = padded (fun k i j => f (ix4 b k i j)) k (q / W + ky) (q % W + 1) := by
  have hq := q.isLt
  rw [lanes_at _ hs b k q (by omega)]
  refine flat_border f hc v h hu hv hN hW b k _ _ _ ?_ (Nat.mod_lt _ hW)
  have := Nat.div_add_mod (q : ℕ) W
  simp only [ho, Nat.add_mul]
  rw [Nat.mul_comm W] at this
  omega

end Cert.Spec

end
-- ==== Proof.Entry1.lean ====
module

public import proofs.«01_k».proof.Proof.Gen.KernelIdeal.Frame
public import proofs.«01_k».proof.Proof.Flat
public import Idealize.ShloMosaic.Lib.Pointwise
public import Idealize.ShloMosaic.Lib.StableHlo.ReadAt

@[expose] public section

set_option maxRecDepth 16384

noncomputable section

/-! The lanes the two kernels are given: the maps with their rows laid end to end, padded by zeros. -/

namespace Cert.KernelIdeal.Value

open Idealize.ShloMosaic Idealize.ShloMosaic.TcCoe Idealize.ShloMosaic.StableHlo Cert.KernelIdeal Cert.KernelIdeal.Gen

/-- The first kernel's lanes are the bordered map of level 0. -/
theorem wide_at (X : Valuation τ sig (Elt Ideal)) (b : Fin 2) (k : Fin 96) (P : Fin 16640) :
    (after hostOps0_1 (after hostOps0 X) (Proc.devRef .tc main_v26) : FVec Ideal S2x96x16640 .f32) (ix3 b k P)
      = Spec.padded (fun k i j => (X (Proc.devRef .tc main_arg0) : FVec Ideal S2x96x128x128 .f32) (ix4 b k i j)) k (P / 128) (P % 128 + 1) := by
  after_reads_simp
  simp -implicitDefEqProofs only [TRef.toBuf, TRef.ofBuf, cast_cast, cast_eq]
  exact Spec.flat_border (N := 16384) (X (Proc.devRef .tc main_arg0)) shapeCasts_S2x96x128x128_S2x96x16384 _
    pads_S2x96x16384_S2x96x16640_000_000_1281280 h_S_ (Spec.zero_first _) (by norm_num) (by omega) b k P _ _
    (by have := Nat.div_add_mod (P : ℕ) 128; omega) (by omega)

/-- What one row of the second kernel's lanes holds: levels 1 to 4 one after the other, each bordered and moved `ky` rows down. -/
def lane (f1 : FVec Ideal S2x96x64x64 .f32) (f2 : FVec Ideal S2x96x32x32 .f32) (f3 : FVec Ideal S2x96x16x16 .f32)
    (f4 : FVec Ideal S2x96x8x8 .f32) (ky : ℕ) (b : Fin 2) (k : Fin 96) (l : ℕ) : EReal :=
  if l < 4096 then Spec.padded (fun k i j => f1 (ix4 b k i j)) k (l / 64 + ky) (l % 64 + 1)
  else if l < 5120 then Spec.padded (fun k i j => f2 (ix4 b k i j)) k ((l - 4096) / 32 + ky) ((l - 4096) % 32 + 1)
  else if l < 5376 then Spec.padded (fun k i j => f3 (ix4 b k i j)) k ((l - 5120) / 16 + ky) ((l - 5120) % 16 + 1)
  else Spec.padded (fun k i j => f4 (ix4 b k i j)) k ((l - 5376) / 8 + ky) ((l - 5376) % 8 + 1)

/-- Four levels' lanes one after the other. -/
theorem beside_at (A1 : FVec Ideal S2x96x4096 .f32) (A2 : FVec Ideal S2x96x1024 .f32) (A3 : FVec Ideal S2x96x256 .f32)
    (A4 : FVec Ideal S2x96x64 .f32) (b : Fin 2) (k : Fin 96) (l : Fin 5440) :
    concatenate S2x96x5440 2 [⟨S2x96x4096, A1⟩, ⟨S2x96x1024, A2⟩, ⟨S2x96x256, A3⟩, ⟨S2x96x64, A4⟩]
      concatenates_S2x96x4096_S2x96x1024_S2x96x256_S2x96x64_S2x96x5440_d2 (ix3 b k l)
      = if h1 : (l : ℕ) < 4096 then A1 (ix3 b k ⟨l, h1⟩)
        else if h2 : (l : ℕ) - 4096 < 1024 then A2 (ix3 b k ⟨l - 4096, h2⟩)
        else if h3 : (l : ℕ) - 4096 - 1024 < 256 then A3 (ix3 b k ⟨l - 4096 - 1024, h3⟩)
        else A4 (ix3 b k ⟨l - 4096 - 1024 - 256, by omega⟩) := by
  pointwise

/-- The padding on the right is not read below lane 5440. -/
theorem right_at (A : FVec Ideal S2x96x5440 .f32) (v : FVec Ideal S_ .f32) (b : Fin 2) (k : Fin 96) (l : Fin 5440) :
    pad S2x96x6144 ![0, 0, 0] ![0, 0, 704] ![0, 0, 0] A v pads_S2x96x5440_S2x96x6144_000_000_07040 h_S_
      (ix3 b k ⟨l, by omega⟩) = A (ix3 b k l) := by
  refine pad_apply_of_inside _ _ _ A v _ _ _ (ix3 b k l) fun a => ?_
  match a with
  | 0 => simp
  | 1 => simp
  | 2 => simp

/-- The four levels' slices at one vertical offset, side by side and padded on the right, hold `lane`. -/
theorem row_at {f1 : FVec Ideal S2x96x64x64 .f32} {f2 : FVec Ideal S2x96x32x32 .f32} {f3 : FVec Ideal S2x96x16x16 .f32}
    {f4 : FVec Ideal S2x96x8x8 .f32} {ky : ℕ} {b : Fin 2} {k : Fin 96}
    {A1 : FVec Ideal S2x96x4096 .f32} {A2 : FVec Ideal S2x96x1024 .f32} {A3 : FVec Ideal S2x96x256 .f32}
    {A4 : FVec Ideal S2x96x64 .f32} (v : FVec Ideal S_ .f32)
    (h1 : ∀ q, A1 (ix3 b k q) = Spec.padded (fun k i j => f1 (ix4 b k i j)) k (q / 64 + ky) (q % 64 + 1))
    (h2 : ∀ q, A2 (ix3 b k q) = Spec.padded (fun k i j => f2 (ix4 b k i j)) k (q / 32 + ky) (q % 32 + 1))
    (h3 : ∀ q, A3 (ix3 b k q) = Spec.padded (fun k i j => f3 (ix4 b k i j)) k (q / 16 + ky) (q % 16 + 1))
    (h4 : ∀ q, A4 (ix3 b k q) = Spec.padded (fun k i j => f4 (ix4 b k i j)) k (q / 8 + ky) (q % 8 + 1)) (l : Fin 5440) :
    pad S2x96x6144 ![0, 0, 0] ![0, 0, 704] ![0, 0, 0]
      (concatenate S2x96x5440 2 [⟨S2x96x4096, A1⟩, ⟨S2x96x1024, A2⟩, ⟨S2x96x256, A3⟩, ⟨S2x96x64, A4⟩]
        concatenates_S2x96x4096_S2x96x1024_S2x96x256_S2x96x64_S2x96x5440_d2) v
      pads_S2x96x5440_S2x96x6144_000_000_07040 h_S_ (ix3 b k ⟨l, by omega⟩)
      = lane f1 f2 f3 f4 ky b k l := by
  rw [right_at, beside_at, lane]
  by_cases c1 : (l : ℕ) < 4096
  · rw [dif_pos c1, if_pos c1]; exact h1 _
  rw [dif_neg c1, if_neg c1]
  by_cases c2 : (l : ℕ) < 5120
  · rw [dif_pos (by omega), if_pos c2]; exact h2 _
  rw [dif_neg (by omega), if_neg c2]
  have e3 : (l : ℕ) - 4096 - 1024 = l - 5120 := by omega
  have e4 : (l : ℕ) - 4096 - 1024 - 256 = l - 5376 := by omega
  by_cases c3 : (l : ℕ) < 5376
  · rw [dif_pos (by omega), if_pos c3, ← e3]; exact h3 _
  · rw [dif_neg (by omega), if_neg c3, ← e4]; exact h4 _

/-- Three arrays set one under the other. -/
theorem three_at (A0 A1 A2 : FVec Ideal S1x2x96x6144 .f32) (ky : Fin 3) (b : Fin 2) (k : Fin 96) (l : Fin 6144) :
    truncf .bf16 (concatenate S3x2x96x6144 0 [⟨S1x2x96x6144, A0⟩, ⟨S1x2x96x6144, A1⟩, ⟨S1x2x96x6144, A2⟩]
      concatenates_S1x2x96x6144_S1x2x96x6144_S1x2x96x6144_S3x2x96x6144_d0) bitsLt_bf16_f32 (ix4 ky b k l)
      = ![A0, A1, A2] ky (ix4 0 b k l) := by
  fin_cases ky <;> pointwise <;> rfl

/-- An array under a leading axis of size one. -/
theorem lead_at (A : FVec Ideal S2x96x6144 .f32) (b : Fin 2) (k : Fin 96) (l : Fin 6144) :
    broadcastInDim S1x2x96x6144 ![1, 2, 3] bcast_S2x96x6144_S1x2x96x6144_1_2_3 A (ix4 0 b k l) = A (ix3 b k l) := by
  pointwise

/-- A slice of level 1's padded lanes, `ky` rows down. -/
theorem slab1_at (f : FVec Ideal S2x96x64x64 .f32) {o : ℕ} (hs : Shape.Slices S2x96x4224 ![0, 0, o] S2x96x4096) (ky : ℕ)
    (ho : o = ky * 64) (hN : o + 4096 ≤ 4224) (b : Fin 2) (k : Fin 96) (q : Fin 4096) :
    extractStridedSlice S2x96x4096 ![0, 0, o]
      (pad S2x96x4224 ![0, 0, 64] ![0, 0, 64] ![0, 0, 0] (shapeCast S2x96x4096 f shapeCasts_S2x96x64x64_S2x96x4096)
        (sitofp .f32 (constantI S_ 32 0#32)) pads_S2x96x4096_S2x96x4224_000_000_64640 h_S_) hs (ix3 b k q)
      = Spec.padded (fun k i j => f (ix4 b k i j)) k (q / 64 + ky) (q % 64 + 1) :=
  Spec.slab_at (N := 4096) (N' := 4224) f shapeCasts_S2x96x64x64_S2x96x4096 _ pads_S2x96x4096_S2x96x4224_000_000_64640 h_S_ hs
    (Spec.zero_first _) (by norm_num) (by norm_num) ky ho hN b k q

/-- A slice of level 2's padded lanes, `ky` rows down. -/
theorem slab2_at (f : FVec Ideal S2x96x32x32 .f32) {o : ℕ} (hs : Shape.Slices S2x96x1088 ![0, 0, o] S2x96x1024) (ky : ℕ)
    (ho : o = ky * 32) (hN : o + 1024 ≤ 1088) (b : Fin 2) (k : Fin 96) (q : Fin 1024) :
    extractStridedSlice S2x96x1024 ![0, 0, o]
      (pad S2x96x1088 ![0, 0, 32] ![0, 0, 32] ![0, 0, 0] (shapeCast S2x96x1024 f shapeCasts_S2x96x32x32_S2x96x1024)
        (sitofp .f32 (constantI S_ 32 0#32)) pads_S2x96x1024_S2x96x1088_000_000_32320 h_S_) hs (ix3 b k q)
      = Spec.padded (fun k i j => f (ix4 b k i j)) k (q / 32 + ky) (q % 32 + 1) :=
  Spec.slab_at (N := 1024) (N' := 1088) f shapeCasts_S2x96x32x32_S2x96x1024 _ pads_S2x96x1024_S2x96x1088_000_000_32320 h_S_ hs
    (Spec.zero_first _) (by norm_num) (by norm_num) ky ho hN b k q

/-- A slice of level 3's padded lanes, `ky` rows down. -/
theorem slab3_at (f : FVec Ideal S2x96x16x16 .f32) {o : ℕ} (hs : Shape.Slices S2x96x288 ![0, 0, o] S2x96x256) (ky : ℕ)
    (ho : o = ky * 16) (hN : o + 256 ≤ 288) (b : Fin 2) (k : Fin 96) (q : Fin 256) :
    extractStridedSlice S2x96x256 ![0, 0, o]
      (pad S2x96x288 ![0, 0, 16] ![0, 0, 16] ![0, 0, 0] (shapeCast S2x96x256 f shapeCasts_S2x96x16x16_S2x96x256)
        (sitofp .f32 (constantI S_ 32 0#32)) pads_S2x96x256_S2x96x288_000_000_16160 h_S_) hs (ix3 b k q)
      = Spec.padded (fun k i j => f (ix4 b k i j)) k (q / 16 + ky) (q % 16 + 1) :=
  Spec.slab_at (N := 256) (N' := 288) f shapeCasts_S2x96x16x16_S2x96x256 _ pads_S2x96x256_S2x96x288_000_000_16160 h_S_ hs
    (Spec.zero_first _) (by norm_num) (by norm_num) ky ho hN b k q

/-- A slice of level 4's padded lanes, `ky` rows down. -/
theorem slab4_at (f : FVec Ideal S2x96x8x8 .f32) {o : ℕ} (hs : Shape.Slices S2x96x80 ![0, 0, o] S2x96x64) (ky : ℕ)
    (ho : o = ky * 8) (hN : o + 64 ≤ 80) (b : Fin 2) (k : Fin 96) (q : Fin 64) :
    extractStridedSlice S2x96x64 ![0, 0, o]
      (pad S2x96x80 ![0, 0, 8] ![0, 0, 8] ![0, 0, 0] (shapeCast S2x96x64 f shapeCasts_S2x96x8x8_S2x96x64)
        (sitofp .f32 (constantI S_ 32 0#32)) pads_S2x96x64_S2x96x80_000_000_880 h_S_) hs (ix3 b k q)
      = Spec.padded (fun k i j => f (ix4 b k i j)) k (q / 8 + ky) (q % 8 + 1) :=
  Spec.slab_at (N := 64) (N' := 80) f shapeCasts_S2x96x8x8_S2x96x64 _ pads_S2x96x64_S2x96x80_000_000_880 h_S_ hs
    (Spec.zero_first _) (by norm_num) (by norm_num) ky ho hN b k q

variable (m : (ℓ : Loc nD τ sig) → Buf (Elt Ideal) ℓ) (ρ : Dev nD → PrngReg) (c : Dev nD)

/-- The lanes of the upper row, off the maps the second stretch is entered with. -/
theorem upperRow_at (b : Fin 2) (k : Fin 96) (l : Fin 5440) :
    (W17 m ρ c (Proc.devRef .tc main_v49) : FVec Ideal S2x96x6144 .f32) (ix3 b k ⟨l, by omega⟩)
      = lane (W3 m ρ c (Proc.devRef .tc main_arg1)) (W3 m ρ c (Proc.devRef .tc main_arg2)) (W3 m ρ c (Proc.devRef .tc main_arg3))
          (W3 m ρ c (Proc.devRef .tc main_arg4)) 0 b k l := by
  after_reads_simp
  simp -implicitDefEqProofs only [TRef.toBuf, TRef.ofBuf, cast_cast, cast_eq]
  refine row_at _ (fun q => ?_) (fun q => ?_) (fun q => ?_) (fun q => ?_) l
  on_goal 1 => change upto hostOps1_8 (W11 m ρ c) 3 (Proc.devRef .tc main_v30) _ = _
  on_goal 2 => change upto hostOps1_8 (W11 m ρ c) 3 (Proc.devRef .tc main_v35) _ = _
  on_goal 3 => change upto hostOps1_8 (W11 m ρ c) 3 (Proc.devRef .tc main_v40) _ = _
  on_goal 4 => change upto hostOps1_8 (W11 m ρ c) 3 (Proc.devRef .tc main_v45) _ = _
  all_goals
    after_reads_simp
    simp -implicitDefEqProofs only [TRef.toBuf, TRef.ofBuf, cast_cast, cast_eq]
  · exact slab1_at (W3 m ρ c (Proc.devRef .tc main_arg1)) _ 0 (by norm_num) (by norm_num) b k q
  · exact slab2_at (W3 m ρ c (Proc.devRef .tc main_arg2)) _ 0 (by norm_num) (by norm_num) b k q
  · exact slab3_at (W3 m ρ c (Proc.devRef .tc main_arg3)) _ 0 (by norm_num) (by norm_num) b k q
  · exact slab4_at (W3 m ρ c (Proc.devRef .tc main_arg4)) _ 0 (by norm_num) (by norm_num) b k q

/-- The lanes of the middle row, off the maps the second stretch is entered with. -/
theorem middleRow_at (b : Fin 2) (k : Fin 96) (l : Fin 5440) :
    (W17 m ρ c (Proc.devRef .tc main_v51) : FVec Ideal S2x96x6144 .f32) (ix3 b k ⟨l, by omega⟩)
      = lane (W3 m ρ c (Proc.devRef .tc main_arg1)) (W3 m ρ c (Proc.devRef .tc main_arg2)) (W3 m ρ c (Proc.devRef .tc main_arg3))
          (W3 m ρ c (Proc.devRef .tc main_arg4)) 1 b k l := by
  after_reads_simp
  simp -implicitDefEqProofs only [TRef.toBuf, TRef.ofBuf, cast_cast, cast_eq]
  refine row_at _ (fun q => ?_) (fun q => ?_) (fun q => ?_) (fun q => ?_) l
  on_goal 1 => change upto hostOps1_10 (W13 m ρ c) 0 (Proc.devRef .tc main_v31) _ = _
  on_goal 2 => change upto hostOps1_10 (W13 m ρ c) 0 (Proc.devRef .tc main_v36) _ = _
  on_goal 3 => change upto hostOps1_10 (W13 m ρ c) 0 (Proc.devRef .tc main_v41) _ = _
  on_goal 4 => change upto hostOps1_10 (W13 m ρ c) 0 (Proc.devRef .tc main_v46) _ = _
  all_goals
    after_reads_simp
    simp -implicitDefEqProofs only [TRef.toBuf, TRef.ofBuf, cast_cast, cast_eq]
  · exact slab1_at (W3 m ρ c (Proc.devRef .tc main_arg1)) _ 1 (by norm_num) (by norm_num) b k q
  · exact slab2_at (W3 m ρ c (Proc.devRef .tc main_arg2)) _ 1 (by norm_num) (by norm_num) b k q
  · exact slab3_at (W3 m ρ c (Proc.devRef .tc main_arg3)) _ 1 (by norm_num) (by norm_num) b k q
  · exact slab4_at (W3 m ρ c (Proc.devRef .tc main_arg4)) _ 1 (by norm_num) (by norm_num) b k q

/-- The lanes of the lower row, off the maps the second stretch is entered with. -/
theorem lowerRow_at (b : Fin 2) (k : Fin 96) (l : Fin 5440) :
    (W17 m ρ c (Proc.devRef .tc main_v53) : FVec Ideal S2x96x6144 .f32) (ix3 b k ⟨l, by omega⟩)
      = lane (W3 m ρ c (Proc.devRef .tc main_arg1)) (W3 m ρ c (Proc.devRef .tc main_arg2)) (W3 m ρ c (Proc.devRef .tc main_arg3))
          (W3 m ρ c (Proc.devRef .tc main_arg4)) 2 b k l := by
  after_reads_simp
  simp -implicitDefEqProofs only [TRef.toBuf, TRef.ofBuf, cast_cast, cast_eq]
  refine row_at _ (fun q => ?_) (fun q => ?_) (fun q => ?_) (fun q => ?_) l
  on_goal 1 => change upto hostOps1_12 (W15 m ρ c) 0 (Proc.devRef .tc main_v32) _ = _
  on_goal 2 => change upto hostOps1_12 (W15 m ρ c) 0 (Proc.devRef .tc main_v37) _ = _
  on_goal 3 => change upto hostOps1_12 (W15 m ρ c) 0 (Proc.devRef .tc main_v42) _ = _
  on_goal 4 => change upto hostOps1_12 (W15 m ρ c) 0 (Proc.devRef .tc main_v47) _ = _
  all_goals
    after_reads_simp
    simp -implicitDefEqProofs only [TRef.toBuf, TRef.ofBuf, cast_cast, cast_eq]
  · exact slab1_at (W3 m ρ c (Proc.devRef .tc main_arg1)) _ 2 (by norm_num) (by norm_num) b k q
  · exact slab2_at (W3 m ρ c (Proc.devRef .tc main_arg2)) _ 2 (by norm_num) (by norm_num) b k q
  · exact slab3_at (W3 m ρ c (Proc.devRef .tc main_arg3)) _ 2 (by norm_num) (by norm_num) b k q
  · exact slab4_at (W3 m ρ c (Proc.devRef .tc main_arg4)) _ 2 (by norm_num) (by norm_num) b k q

/-- The second kernel's lanes: level after level, each bordered, at the three vertical offsets. -/
theorem deep_at (ky : Fin 3) (b : Fin 2) (k : Fin 96) (l : Fin 5440) :
    (W18 m ρ c (Proc.devRef .tc main_v58) : FVec Ideal S3x2x96x6144 .bf16) (ix4 ky b k ⟨l, by omega⟩)
      = lane (W3 m ρ c (Proc.devRef .tc main_arg1)) (W3 m ρ c (Proc.devRef .tc main_arg2)) (W3 m ρ c (Proc.devRef .tc main_arg3))
          (W3 m ρ c (Proc.devRef .tc main_arg4)) ky b k l := by
  have h (Y : Valuation τ sig (Elt Ideal)) :
      (after hostOps1_14 Y (Proc.devRef .tc main_v58) : FVec Ideal S3x2x96x6144 .bf16) (ix4 ky b k ⟨l, by omega⟩)
        = (![Y (Proc.devRef .tc main_v49), Y (Proc.devRef .tc main_v51), Y (Proc.devRef .tc main_v53)] : Fin 3 → FVec Ideal S2x96x6144 .f32) ky
            (ix3 b k ⟨l, by omega⟩) := by
    after_reads_simp
    refine (three_at _ _ _ ky b k _).trans ?_
    fin_cases ky
    on_goal 1 => change upto hostOps1_14 Y 3 (Proc.devRef .tc main_v54) _ = _
    on_goal 2 => change upto hostOps1_14 Y 3 (Proc.devRef .tc main_v55) _ = _
    on_goal 3 => change upto hostOps1_14 Y 3 (Proc.devRef .tc main_v56) _ = _
    all_goals
      after_reads_simp
      exact lead_at _ b k _
  refine (h (W17 m ρ c)).trans ?_
  fin_cases ky
  · exact upperRow_at m ρ c b k l
  · exact middleRow_at m ρ c b k l
  · exact lowerRow_at m ρ c b k l

end Cert.KernelIdeal.Value

end
-- ==== Proof.Arrays.lean ====
module

public import proofs.«01_k».proof.KernelIdeal
public import proofs.«01_k».proof.Proof.Spec

@[expose] public section

set_option maxRecDepth 16384

noncomputable section

/-! What the two regions' result arrays hold, as functions of the arrays the regions read. -/

namespace Cert.KernelIdeal.Value

open Idealize.ShloMosaic Cert.KernelIdeal

/-- Entry `(b, c, a, p)` of the first region's result: coordinate `c` of the box of anchor `a` at lane `p`,
    from the padded rows `x0`, whose chunk of 2048 lanes the masks `ml`, `mr` and the rotations act on. -/
def first (x0 : FVec Ideal S2x96x16640 .f32) (wt : FVec Ideal S9x96x96 .bf16) (bt : FVec Ideal S96x1 .f32)
    (wr : FVec Ideal S4x9x96 .bf16) (br : FVec Ideal S4x9x1 .f32) (an : FVec Ideal S2x9x1 .f32)
    (ml mr : FVec Ideal S1x16384 .bf16) (cx cy : FVec Ideal S1x16384 .f32)
    (b : Fin 2) (c : Fin 4) (a : Fin 9) (p : Fin 16384) : EReal :=
  Spec.box
    (Spec.delta
      (Spec.hidden
        (fun ky kx k => Spec.tap (fun l => x0 (ix3 b k ⟨2048 * (p / 2048) + 128 * ky + l, by omega⟩)) (ml (ix2 0 p)) (mr (ix2 0 p))
          ⟨p % 2048, by omega⟩ kx)
        (fun o k ky kx => wt (ix3 ⟨3 * ky + kx, by omega⟩ o k)) fun o => bt (ix2 o 0))
      (fun i k => wr (ix3 i a k)) fun i => br (ix3 i a 0))
    (an (ix3 0 a 0)) (an (ix3 1 a 0)) (cx (ix2 0 p)) (cy (ix2 0 p)) c

/-- Entry `(b, c, a, p)` of the second region's result: the same from the three shifted copies `xs` of the
    concatenated levels, and the tables of anchor sides. -/
def second (xs : FVec Ideal S3x2x96x6144 .bf16) (wt : FVec Ideal S9x96x96 .bf16) (bt : FVec Ideal S96x1 .f32)
    (wr : FVec Ideal S4x9x96 .bf16) (br : FVec Ideal S4x9x1 .f32)
    (ml mr : FVec Ideal S1x6144 .bf16) (cx cy : FVec Ideal S1x6144 .f32) (ws hs : FVec Ideal S9x6144 .f32)
    (b : Fin 2) (c : Fin 4) (a : Fin 9) (p : Fin 6144) : EReal :=
  Spec.box
    (Spec.delta
      (Spec.hidden
        (fun ky kx k => Spec.tap (fun l => xs (ix4 ky b k ⟨2048 * (p / 2048) + l, by omega⟩)) (ml (ix2 0 p)) (mr (ix2 0 p))
          ⟨p % 2048, by omega⟩ kx)
        (fun o k ky kx => wt (ix3 ⟨3 * ky + kx, by omega⟩ o k)) fun o => bt (ix2 o 0))
      (fun i k => wr (ix3 i a k)) fun i => br (ix3 i a 0))
    (ws (ix2 a p)) (hs (ix2 a p)) (cx (ix2 0 p)) (cy (ix2 0 p)) c

/-- The first region's entry at lane `l` of chunk `T`, from the slab of that chunk. -/
theorem first_at (x0 : FVec Ideal S2x96x16640 .f32) (wt : FVec Ideal S9x96x96 .bf16) (bt : FVec Ideal S96x1 .f32)
    (wr : FVec Ideal S4x9x96 .bf16) (br : FVec Ideal S4x9x1 .f32) (an : FVec Ideal S2x9x1 .f32)
    (ml mr : FVec Ideal S1x16384 .bf16) (cx cy : FVec Ideal S1x16384 .f32) {b b' : Fin 2} {c c' : Fin 4} {a a' : Fin 9}
    {T : ℕ} {l : Fin 2048} {p : Fin 16384} (hT : T < 8) (hb : (b' : ℕ) = b) (hc : (c' : ℕ) = c) (ha : (a' : ℕ) = a)
    (hp : (p : ℕ) = 2048 * T + l) :
    Spec.box
      (Spec.delta
        (Spec.hidden
          (fun ky kx k => Spec.tap (fun l => x0 (ix3 b k ⟨2048 * T + 128 * ky + l, by omega⟩)) (ml (ix2 0 ⟨2048 * T + l, by omega⟩))
            (mr (ix2 0 ⟨2048 * T + l, by omega⟩)) l kx)
          (fun o k ky kx => wt (ix3 ⟨3 * ky + kx, by omega⟩ o k)) fun o => bt (ix2 o 0))
        (fun i k => wr (ix3 i a k)) fun i => br (ix3 i a 0))
      (an (ix3 0 a 0)) (an (ix3 1 a 0)) (cx (ix2 0 ⟨2048 * T + l, by omega⟩)) (cy (ix2 0 ⟨2048 * T + l, by omega⟩)) c
    = first x0 wt bt wr br an ml mr cx cy b' c' a' p := by
  obtain rfl : b' = b := Fin.ext hb
  obtain rfl : c' = c := Fin.ext hc
  obtain rfl : a' = a := Fin.ext ha
  obtain ⟨p, hp'⟩ := p
  obtain rfl : p = 2048 * T + l := hp
  have e1 : (2048 * T + (l : ℕ)) / 2048 = T := by omega
  have e2 : (2048 * T + (l : ℕ)) % 2048 = l := by omega
  simp only [first, e1, e2]

/-- The second region's entry at lane `l` of chunk `T`, from the slab of that chunk. -/
theorem second_at (xs : FVec Ideal S3x2x96x6144 .bf16) (wt : FVec Ideal S9x96x96 .bf16) (bt : FVec Ideal S96x1 .f32)
    (wr : FVec Ideal S4x9x96 .bf16) (br : FVec Ideal S4x9x1 .f32)
    (ml mr : FVec Ideal S1x6144 .bf16) (cx cy : FVec Ideal S1x6144 .f32) (ws hs : FVec Ideal S9x6144 .f32)
    {b b' : Fin 2} {c c' : Fin 4} {a a' : Fin 9}
    {T : ℕ} {l : Fin 2048} {p : Fin 6144} (hT : T < 3) (hb : (b' : ℕ) = b) (hc : (c' : ℕ) = c) (ha : (a' : ℕ) = a)
    (hp : (p : ℕ) = 2048 * T + l) :
    Spec.box
      (Spec.delta
        (Spec.hidden
          (fun ky kx k => Spec.tap (fun l => xs (ix4 ky b k ⟨2048 * T + l, by omega⟩)) (ml (ix2 0 ⟨2048 * T + l, by omega⟩))
            (mr (ix2 0 ⟨2048 * T + l, by omega⟩)) l kx)
          (fun o k ky kx => wt (ix3 ⟨3 * ky + kx, by omega⟩ o k)) fun o => bt (ix2 o 0))
        (fun i k => wr (ix3 i a k)) fun i => br (ix3 i a 0))
      (ws (ix2 a ⟨2048 * T + l, by omega⟩)) (hs (ix2 a ⟨2048 * T + l, by omega⟩)) (cx (ix2 0 ⟨2048 * T + l, by omega⟩))
      (cy (ix2 0 ⟨2048 * T + l, by omega⟩)) c
    = second xs wt bt wr br ml mr cx cy ws hs b' c' a' p := by
  obtain rfl : b' = b := Fin.ext hb
  obtain rfl : c' = c := Fin.ext hc
  obtain rfl : a' = a := Fin.ext ha
  obtain ⟨p, hp'⟩ := p
  obtain rfl : p = 2048 * T + l := hp
  have e1 : (2048 * T + (l : ℕ)) / 2048 = T := by omega
  have e2 : (2048 * T + (l : ℕ)) % 2048 = l := by omega
  simp only [second, e1, e2]

end Cert.KernelIdeal.Value

end
-- ==== Proof.Tap.lean ====
module

public import proofs.«01_k».proof.Proof.Level

@[expose] public section

set_option maxRecDepth 16384

noncomputable section

/-! A masked rotation of a lane block is a column of the bordered map. -/

namespace Cert.Spec

open Idealize.ShloMosaic

/-- A tap read off a block of lanes: where the block holds row `g` from column `x + 1` at lane `l`, and the masks clear the
columns beside the row's ends, the three taps are `g` at `x`, `x + 1` and `x + 2`. -/
theorem tap_eq (s : Fin 2048 → EReal) (ml mr : EReal) (l : Fin 2048) (W x : ℕ) (g : ℕ → EReal)
    (h0 : g 0 = 0) (hW : g (W + 1) = 0) (hml : ml = if x = 0 then 0 else 1) (hmr : mr = if x + 1 = W then 0 else 1)
    (hc : s l = g (x + 1))
    (hl : x ≠ 0 → 1 ≤ (l : ℕ) ∧ ∀ q : Fin 2048, (q : ℕ) + 1 = l → s q = g x)
    (hr : x + 1 ≠ W → (l : ℕ) < 2047 ∧ ∀ q : Fin 2048, (q : ℕ) = l + 1 → s q = g (x + 2))
    (kx : Fin 3) : tap s ml mr l kx = g (x + kx) := by
  subst hml hmr
  unfold tap
  match kx with
  | 0 =>
    show _ * _ = g x
    by_cases hx : x = 0
    · subst hx; rw [if_pos rfl, mul_zero, h0]
    · obtain ⟨h1, h2⟩ := hl hx
      rw [if_neg hx, mul_one, dif_neg (by omega)]
      exact h2 _ (by simp only; omega)
  | 1 => exact hc
  | 2 =>
    show _ * _ = g (x + 2)
    by_cases hx : x + 1 = W
    · subst hx; rw [if_pos rfl, mul_zero, ← hW]
    · obtain ⟨h1, h2⟩ := hr hx
      rw [if_neg hx, mul_one, dif_pos h1]
      exact h2 _ (by simp only; omega)

end Cert.Spec

end
-- ==== Proof.Regions.lean ====
module

public import proofs.«01_k».proof.Proof.Arrays
public import proofs.«01_k».proof.Proof.Boxes
public import proofs.«01_k».proof.Proof.Tap

@[expose] public section

set_option maxRecDepth 16384

noncomputable section

/-! The two kernels' entries, given arrays that hold what the host operations prepare, are the specification's boxes. -/

namespace Cert.KernelIdeal.Value

open Idealize.ShloMosaic Cert.KernelIdeal

/-- The bordered map's first column is zero. -/
theorem padded_left {H W : ℕ} (f : Fin 96 → Fin H → Fin W → EReal) (k : Fin 96) (i : ℕ) : Spec.padded f k i 0 = 0 :=
  dif_neg (by omega)

/-- The bordered map's last column is zero. -/
theorem padded_right {H W : ℕ} (f : Fin 96 → Fin H → Fin W → EReal) (k : Fin 96) (i : ℕ) : Spec.padded f k i (W + 1) = 0 :=
  dif_neg (by omega)

/-- Weights and biases as the kernels hold them are the arguments `V`, `u`, `R` and `v`. -/
structure Weights (V : FVec Ideal S96x96x3x3 .f32) (u : FVec Ideal S96 .f32) (R : FVec Ideal S36x96x1x1 .f32) (v : FVec Ideal S36 .f32)
    (wt : FVec Ideal S9x96x96 .bf16) (bt : FVec Ideal S96x1 .f32) (wr : FVec Ideal S4x9x96 .bf16) (br : FVec Ideal S4x9x1 .f32) : Prop where
  /-- The first weights, tap by tap. -/
  first : ∀ (t : Fin 9) (o k : Fin 96), wt (ix3 t o k) = V (ix4 o k ⟨t / 3, by omega⟩ ⟨t % 3, by omega⟩)
  /-- The first bias. -/
  bias : ∀ o : Fin 96, bt (ix2 o 0) = u (ix1 o)
  /-- The second weights, delta by delta. -/
  second : ∀ (i : Fin 4) (a : Fin 9) (k : Fin 96), wr (ix3 i a k) = R (ix4 ⟨a * 4 + i, by omega⟩ k 0 0)
  /-- The second bias. -/
  shift : ∀ (i : Fin 4) (a : Fin 9), br (ix3 i a 0) = v (ix1 ⟨a * 4 + i, by omega⟩)

section

variable {V : FVec Ideal S96x96x3x3 .f32} {u : FVec Ideal S96 .f32} {R : FVec Ideal S36x96x1x1 .f32} {v : FVec Ideal S36 .f32}
  {wt : FVec Ideal S9x96x96 .bf16} {bt : FVec Ideal S96x1 .f32} {wr : FVec Ideal S4x9x96 .bf16} {br : FVec Ideal S4x9x1 .f32}

/-- A box off taps that are the bordered map's, with the kernels' weights and a level's sides and positions, is the level's. -/
theorem box_level (hw : Weights V u R v wt bt wr br) {l : ℕ} {H W : ℕ} {f : Fin 96 → Fin H → Fin W → EReal} {y x : ℕ} {a : Fin 9}
    {T : Fin 3 → Fin 3 → Fin 96 → EReal} {sw sh cx cy : EReal} (c : Fin 4)
    (hT : ∀ ky kx k, T ky kx k = Spec.padded f k (y + ky) (x + kx)) (hsw : sw = Ideal.ofBits .f32 (Spec.width l a))
    (hsh : sh = Ideal.ofBits .f32 (Spec.height l a)) (hcx : cx = Spec.pos l x) (hcy : cy = Spec.pos l y) :
    Spec.box (Spec.delta (Spec.hidden T (fun o k ky kx => wt (ix3 ⟨3 * ky + kx, by omega⟩ o k)) fun o => bt (ix2 o 0))
        (fun i k => wr (ix3 i a k)) fun i => br (ix3 i a 0)) sw sh cx cy c
      = Spec.level l f (fun o k ky kx => V (ix4 o k ky kx)) (fun o => u (ix1 o)) (fun i k => R (ix4 i k 0 0)) (fun i => v (ix1 i)) y x a c := by
  subst hsw hsh hcx hcy
  have e1 : T = fun (ky kx : Fin 3) k => Spec.padded f k (y + ky) (x + kx) := funext fun ky => funext fun kx => funext fun k => hT ky kx k
  have e2 : (fun (o k : Fin 96) (ky kx : Fin 3) => wt (ix3 ⟨3 * ky + kx, by omega⟩ o k)) = fun o k ky kx => V (ix4 o k ky kx) := by
    funext o k ky kx
    refine (hw.first _ o k).trans ?_
    have a1 : (⟨(3 * (ky : ℕ) + kx) / 3, by omega⟩ : Fin 3) = ky := Fin.ext (by simp only; omega)
    have a2 : (⟨(3 * (ky : ℕ) + kx) % 3, by omega⟩ : Fin 3) = kx := Fin.ext (by simp only; omega)
    exact congrArg₂ (fun p q => V (ix4 o k p q)) a1 a2
  rw [e1, e2, Spec.level, Spec.deltas]
  simp only [hw.bias, hw.second, hw.shift]

/-- The first kernel's entries are level 0's boxes. -/
theorem first_level (hw : Weights V u R v wt bt wr br) (f : FVec Ideal S2x96x128x128 .f32) (x0 : FVec Ideal S2x96x16640 .f32)
    (an : FVec Ideal S2x9x1 .f32) (ml mr : FVec Ideal S1x16384 .bf16) (cx cy : FVec Ideal S1x16384 .f32)
    (hx : ∀ (b : Fin 2) (k : Fin 96) (P : Fin 16640), x0 (ix3 b k P) = Spec.padded (fun k i j => f (ix4 b k i j)) k (P / 128) (P % 128 + 1))
    (hsw : ∀ a : Fin 9, an (ix3 0 a 0) = Ideal.ofBits .f32 (Spec.width 0 a))
    (hsh : ∀ a : Fin 9, an (ix3 1 a 0) = Ideal.ofBits .f32 (Spec.height 0 a))
    (hml : ∀ p : Fin 16384, ml (ix2 0 p) = if (p : ℕ) % 128 = 0 then 0 else 1)
    (hmr : ∀ p : Fin 16384, mr (ix2 0 p) = if (p : ℕ) % 128 + 1 = 128 then 0 else 1)
    (hcx : ∀ p : Fin 16384, cx (ix2 0 p) = Spec.pos 0 (p % 128)) (hcy : ∀ p : Fin 16384, cy (ix2 0 p) = Spec.pos 0 (p / 128))
    (b : Fin 2) (c : Fin 4) (n : ℕ) (p : Fin 16384) (hp : n / 9 = p) :
    first x0 wt bt wr br an ml mr cx cy b c ⟨n % 9, by omega⟩ p = Spec.levelBox V u R v 0 f b n c := by
  unfold first Spec.levelBox
  rw [hp]
  refine box_level hw c (fun ky kx k => ?_) (hsw _) (hsh _) (hcx _) (hcy _)
  refine Spec.tap_eq _ _ _ _ 128 (p % 128) (fun j => Spec.padded (fun k i j => f (ix4 b k i j)) k (p / 128 + ky) j)
    (padded_left _ _ _) (padded_right _ _ _) (hml _) (hmr _) ?_ (fun h => ⟨?_, fun q hq => ?_⟩) (fun h => ⟨?_, fun q hq => ?_⟩) kx
  · refine (hx b k _).trans ?_
    congr 1 <;> (simp only; omega)
  · simp only; omega
  · refine (hx b k _).trans ?_
    simp only at hq
    congr 1 <;> (simp only; omega)
  · simp only; omega
  · refine (hx b k _).trans ?_
    simp only at hq
    congr 1 <;> (simp only; omega)

/-- The second kernel's entries on the lanes `o` to `o + H * W - 1`, which hold level `l`, are the level's boxes. -/
theorem second_level (hw : Weights V u R v wt bt wr br) (l o H W : ℕ) (f : FVec Ideal ⟨4, ![2, 96, H, W]⟩ .f32)
    (hW : W ∣ 2048) (hW0 : 0 < W) (ho : W ∣ o) (hN : o + H * W ≤ 6144)
    (xs : FVec Ideal S3x2x96x6144 .bf16) (ml mr : FVec Ideal S1x6144 .bf16) (cx cy : FVec Ideal S1x6144 .f32) (ws hs : FVec Ideal S9x6144 .f32)
    (hx : ∀ (ky : Fin 3) (b : Fin 2) (k : Fin 96) (q : ℕ) (hq : q < H * W),
      xs (ix4 ky b k ⟨o + q, by omega⟩) = Spec.padded (fun k i j => f (ix4 b k i j)) k (q / W + ky) (q % W + 1))
    (hsw : ∀ (a : Fin 9) (q : ℕ) (hq : q < H * W), ws (ix2 a ⟨o + q, by omega⟩) = Ideal.ofBits .f32 (Spec.width l a))
    (hsh : ∀ (a : Fin 9) (q : ℕ) (hq : q < H * W), hs (ix2 a ⟨o + q, by omega⟩) = Ideal.ofBits .f32 (Spec.height l a))
    (hml : ∀ (q : ℕ) (hq : q < H * W), ml (ix2 0 ⟨o + q, by omega⟩) = if q % W = 0 then 0 else 1)
    (hmr : ∀ (q : ℕ) (hq : q < H * W), mr (ix2 0 ⟨o + q, by omega⟩) = if q % W + 1 = W then 0 else 1)
    (hcx : ∀ (q : ℕ) (hq : q < H * W), cx (ix2 0 ⟨o + q, by omega⟩) = Spec.pos l (q % W))
    (hcy : ∀ (q : ℕ) (hq : q < H * W), cy (ix2 0 ⟨o + q, by omega⟩) = Spec.pos l (q / W))
    (b : Fin 2) (c : Fin 4) (n q : ℕ) (hq : n / 9 = q) (hn : q < H * W) :
    second xs wt bt wr br ml mr cx cy ws hs b c ⟨n % 9, by omega⟩ ⟨o + q, by omega⟩ = Spec.levelBox V u R v l f b n c := by
  unfold second Spec.levelBox
  rw [hq]
  refine box_level hw c (fun ky kx k => ?_) (hsw _ q hn) (hsh _ q hn) (hcx q hn) (hcy q hn)
  obtain ⟨d, hd⟩ := hW
  obtain ⟨e, rfl⟩ := ho
  have hqm := Nat.div_add_mod q W
  have hlt := Nat.mod_lt q hW0
  have hl : (W * e + q) % 2048 % W = q % W := by
    rw [hd, Nat.mod_mul_right_mod, Nat.mul_add_mod]
  refine Spec.tap_eq _ _ _ _ W (q % W) (fun j => Spec.padded (fun k i j => f (ix4 b k i j)) k (q / W + ky) j)
    (padded_left _ _ _) (padded_right _ _ _) (hml q hn) (hmr q hn) ?_ (fun h => ⟨?_, fun r hr => ?_⟩) (fun h => ⟨?_, fun r hr => ?_⟩) kx
  · refine Eq.trans ?_ (hx ky b k q hn)
    congr 2
    exact Fin.ext (by simp only; omega)
  · simp only
    by_contra h0
    have h1 : (W * e + q) % 2048 = 0 := by omega
    rw [h1, Nat.zero_mod] at hl
    omega
  · simp only at hr
    have e1 : (q - 1) / W = q / W := by
      rw [show q - 1 = W * (q / W) + (q % W - 1) by omega, Nat.mul_add_div hW0, Nat.div_eq_of_lt (show q % W - 1 < W by omega), Nat.add_zero]
    have e2 : (q - 1) % W + 1 = q % W := by
      rw [show q - 1 = W * (q / W) + (q % W - 1) by omega, Nat.mul_add_mod, Nat.mod_eq_of_lt (show q % W - 1 < W by omega)]
      omega
    have e3 := hx ky b k (q - 1) (by omega)
    rw [e1, e2] at e3
    refine Eq.trans ?_ e3
    congr 2
    exact Fin.ext (by simp only; omega)
  · simp only
    by_contra h0
    have h1 : (W * e + q) % 2048 = 2047 := by omega
    have hd0 : d ≠ 0 := by rintro rfl; omega
    rw [h1] at hl
    obtain ⟨d', rfl⟩ := Nat.exists_eq_succ_of_ne_zero hd0
    have h2 : 2047 = W * d' + (W - 1) := by
      have : 2048 = W * d' + W := hd
      omega
    rw [h2, Nat.mul_add_mod, Nat.mod_eq_of_lt (show W - 1 < W by omega)] at hl
    omega
  · simp only at hr
    have hne : q % W + 1 < W := by omega
    have hq1 : q + 1 = W * (q / W) + (q % W + 1) := by omega
    have e1 : (q + 1) / W = q / W := by
      rw [hq1, Nat.mul_add_div hW0, Nat.div_eq_of_lt hne, Nat.add_zero]
    have e2 : (q + 1) % W + 1 = q % W + 2 := by
      rw [hq1, Nat.mul_add_mod, Nat.mod_eq_of_lt hne]
    have h3 : q + 1 < H * W := by
      have : q / W < H := Nat.div_lt_of_lt_mul (by rw [Nat.mul_comm]; exact hn)
      have : (q / W + 1) * W ≤ H * W := Nat.mul_le_mul_right W this
      rw [Nat.add_mul, Nat.mul_comm (q / W)] at this
      omega
    have e3 := hx ky b k (q + 1) h3
    rw [e1, e2] at e3
    refine Eq.trans ?_ e3
    congr 2
    exact Fin.ext (by simp only; omega)

end

end Cert.KernelIdeal.Value

end
-- ==== Proof.Tables.lean ====
module

public import proofs.«01_k».proof.KernelIdeal
public import proofs.«01_k».proof.Proof.Words
public import proofs.«01_k».proof.Proof.Level

@[expose] public section

set_option maxRecDepth 16384

noncomputable section

/-! What the kernel program's constant tables of level 0 hold. -/

namespace Cert.KernelIdeal.Value

open Idealize.ShloMosaic Cert.KernelIdeal

/-- The word of the position of row or column `i` of level `l`: level 0's, its exponent raised by `l`. -/
def posWord (l i : ℕ) : BitVec 32 := lit2t i + (if i = 0 then 0#32 else BitVec.ofNat 32 (l * 2 ^ 23))

/-- It is the word of that position. -/
theorem posWord_nat : ∀ l : Fin 5, ∀ i : Fin 128, Words.IsNat (posWord l i) (i * (4 * 2 ^ (l : ℕ))) := by
  decide +kernel

/-- It denotes that position. -/
theorem posWord_eq (l i : ℕ) (hl : l < 5) (hi : i < 128) : Ideal.ofBits .f32 (posWord l i) = Spec.pos l i :=
  Words.ofBits_nat _ _ (posWord_nat ⟨l, hl⟩ ⟨i, hi⟩)

/-- A row of a table whose 128 entries are all `c`. -/
theorem const_row (x : ℕ) (hx : x < 128) (c d : BitVec 32) :
    (match (generalizing := false) x with
      | 0 => c | 1 => c | 2 => c | 3 => c | 4 => c | 5 => c | 6 => c | 7 => c
      | 8 => c | 9 => c | 10 => c | 11 => c | 12 => c | 13 => c | 14 => c | 15 => c
      | 16 => c | 17 => c | 18 => c | 19 => c | 20 => c | 21 => c | 22 => c | 23 => c
      | 24 => c | 25 => c | 26 => c | 27 => c | 28 => c | 29 => c | 30 => c | 31 => c
      | 32 => c | 33 => c | 34 => c | 35 => c | 36 => c | 37 => c | 38 => c | 39 => c
      | 40 => c | 41 => c | 42 => c | 43 => c | 44 => c | 45 => c | 46 => c | 47 => c
      | 48 => c | 49 => c | 50 => c | 51 => c | 52 => c | 53 => c | 54 => c | 55 => c
      | 56 => c | 57 => c | 58 => c | 59 => c | 60 => c | 61 => c | 62 => c | 63 => c
      | 64 => c | 65 => c | 66 => c | 67 => c | 68 => c | 69 => c | 70 => c | 71 => c
      | 72 => c | 73 => c | 74 => c | 75 => c | 76 => c | 77 => c | 78 => c | 79 => c
      | 80 => c | 81 => c | 82 => c | 83 => c | 84 => c | 85 => c | 86 => c | 87 => c
      | 88 => c | 89 => c | 90 => c | 91 => c | 92 => c | 93 => c | 94 => c | 95 => c
      | 96 => c | 97 => c | 98 => c | 99 => c | 100 => c | 101 => c | 102 => c | 103 => c
      | 104 => c | 105 => c | 106 => c | 107 => c | 108 => c | 109 => c | 110 => c | 111 => c
      | 112 => c | 113 => c | 114 => c | 115 => c | 116 => c | 117 => c | 118 => c | 119 => c
      | 120 => c | 121 => c | 122 => c | 123 => c | 124 => c | 125 => c | 126 => c | 127 => c
      | _ => d) = c := by
  interval_cases x <;> rfl

/-- Every row of the first mask is its first row. -/
theorem left_row (i : ℕ) (hi : i / 128 < 128) : lit0t i = lit0t0_0 (i % 128) := by
  have e : lit0t i = lit0t0_0 i := by
    unfold lit0t
    generalize i / 128 = y at *
    interval_cases y <;> rfl
  rw [e]; unfold lit0t0_0; rw [Nat.mod_mod]

/-- Every row of the second mask is its first row. -/
theorem right_row (i : ℕ) (hi : i / 128 < 128) : lit1t i = lit1t0_0 (i % 128) := by
  have e : lit1t i = lit1t0_0 i := by
    unfold lit1t
    generalize i / 128 = y at *
    interval_cases y <;> rfl
  rw [e]; unfold lit1t0_0; rw [Nat.mod_mod]

/-- Every row of the columns' positions is its first row. -/
theorem column_row (i : ℕ) (hi : i / 128 < 128) : lit2t i = lit2t0_0 (i % 128) := by
  have e : lit2t i = lit2t0_0 i := by
    unfold lit2t
    generalize i / 128 = y at *
    interval_cases y <;> rfl
  rw [e]; unfold lit2t0_0; rw [Nat.mod_mod]

/-- The rows' first entries. -/
theorem first_row : ∀ x : Fin 128, lit0t0_0 x = (if (x : ℕ) = 0 then 0x0000#16 else 0x3F80#16)
    ∧ lit1t0_0 x = (if (x : ℕ) + 1 = 128 then 0x0000#16 else 0x3F80#16) ∧ lit2t0_0 x = posWord 0 x := by
  decide +kernel

/-- The first mask is zero on the map's first column. -/
theorem left0 (i : ℕ) (hi : i < 16384) : lit0t i = (if i % 128 = 0 then 0x0000#16 else 0x3F80#16) :=
  (left_row i (by omega)).trans (first_row ⟨i % 128, by omega⟩).1

/-- The second mask is zero on the map's last column. -/
theorem right0 (i : ℕ) (hi : i < 16384) : lit1t i = (if i % 128 + 1 = 128 then 0x0000#16 else 0x3F80#16) :=
  (right_row i (by omega)).trans (first_row ⟨i % 128, by omega⟩).2.1

/-- The columns' positions. -/
theorem column0 (i : ℕ) (hi : i < 16384) : lit2t i = posWord 0 (i % 128) :=
  (column_row i (by omega)).trans (first_row ⟨i % 128, by omega⟩).2.2

set_option maxHeartbeats 4000000 in
/-- The rows' positions. -/
theorem row0 (i : ℕ) (hi : i < 16384) : lit3t i = posWord 0 (i / 128) := by
  have hy : i / 128 < 128 := by omega
  unfold lit3t
  generalize i / 128 = y at *
  interval_cases y
  all_goals (refine (const_row _ (Nat.mod_lt _ (by norm_num)) _ _).trans ?_; decide +kernel)

/-- The nine anchors' widths, then their heights. -/
theorem sides0 : ∀ a : Fin 9, lit4 ⟨a, by omega⟩ = Spec.width 0 a ∧ lit4 ⟨9 + a, by omega⟩ = Spec.height 0 a := by
  decide +kernel

end Cert.KernelIdeal.Value

end
-- ==== Proof.Entry2.lean ====
module

public import proofs.«01_k».proof.Proof.Entry0
public import proofs.«01_k».proof.Proof.Entry1
public import proofs.«01_k».proof.Proof.Regions
public import proofs.«01_k».proof.Proof.Tables

@[expose] public section

set_option maxRecDepth 16384

noncomputable section

/-! What each kernel is entered with: the weights, and the tables read at a lane. -/

namespace Cert.KernelIdeal.Value

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

/-- The buffers the host operations between the two kernels write. -/
abbrev between : List (Ref sig .tc) :=
  hostOps1_W ++ hostOps1_1_W ++ hostOps1_2_W ++ hostOps1_3_W ++ hostOps1_4_W ++ hostOps1_5_W ++ hostOps1_6_W ++ hostOps1_7_W
    ++ hostOps1_8_W ++ hostOps1_9_W ++ hostOps1_10_W ++ hostOps1_11_W ++ hostOps1_12_W ++ hostOps1_13_W ++ hostOps1_14_W

/-- Any other buffer is the same when the second kernel is entered as when the first has ended. -/
theorem keep_between (r : Ref sig .tc) (h : r ∉ between) : W18 m ρ c (Proc.devRef .tc r) = W3 m ρ c (Proc.devRef .tc r) := by
  simp only [between, List.mem_append, not_or] at h
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h
  rw [W18_of m ρ c r h14, W17_of m ρ c r h13, W16_of m ρ c r h12, W15_of m ρ c r h11, W14_of m ρ c r h10, W13_of m ρ c r h9,
    W12_of m ρ c r h8, W11_of m ρ c r h7, W10_of m ρ c r h6, W9_of m ρ c r h5, W8_of m ρ c r h4, W7_of m ρ c r h3,
    W6_of m ρ c r h2, W5_of m ρ c r h1, W4_of m ρ c r h0]

/-- A buffer the first kernel does not write either is the same when the second is entered as when the first is. -/
theorem keep (r : Ref sig .tc) (h : r ∉ between) (h3 : ∀ w : Fin cfg0.W, Pipeline.arrRef spec0 w = r → (cfg0.win w).isOut = false) :
    W18 m ρ c (Proc.devRef .tc r) = W2 m ρ c (Proc.devRef .tc r) :=
  (keep_between m ρ c r h).trans (W3_of m ρ c r h3)

/-- The first kernel's weights. -/
theorem weights0 : Weights (m ((c : Thread nD τ).loc main_arg5)) (m ((c : Thread nD τ).loc main_arg6)) (m ((c : Thread nD τ).loc main_arg9))
    (m ((c : Thread nD τ).loc main_arg10)) (V2 m ρ c main_v2) (V2 m ρ c main_v3) (V2 m ρ c main_v14) (V2 m ρ c main_v24) where
  first t o k := (congrFun (W2_of m ρ c main_v2 (by decide +kernel)) _).trans (weights_at (W0 m ρ c) t o k)
  bias o := (congrFun (W2_of m ρ c main_v3 (by decide +kernel)) _).trans (bias_at (W0 m ρ c) o)
  second i a k := (congrFun (W2_of m ρ c main_v14 (by decide +kernel)) _).trans (rows_at (W0 m ρ c) i a k)
  shift i a := (congrFun (W2_of m ρ c main_v24 (by decide +kernel)) _).trans (shifts_at (W0 m ρ c) i a)

/-- The second kernel's weights are the first's. -/
theorem weights1 : Weights (m ((c : Thread nD τ).loc main_arg5)) (m ((c : Thread nD τ).loc main_arg6)) (m ((c : Thread nD τ).loc main_arg9))
    (m ((c : Thread nD τ).loc main_arg10)) (V18 m ρ c main_v2) (V18 m ρ c main_v3) (V18 m ρ c main_v14) (V18 m ρ c main_v24) := by
  have h2 : V18 m ρ c main_v2 = V2 m ρ c main_v2 := keep m ρ c main_v2 (by decide +kernel) (by decide +kernel)
  have h3 : V18 m ρ c main_v3 = V2 m ρ c main_v3 := keep m ρ c main_v3 (by decide +kernel) (by decide +kernel)
  have h14 : V18 m ρ c main_v14 = V2 m ρ c main_v14 := keep m ρ c main_v14 (by decide +kernel) (by decide +kernel)
  have h24 : V18 m ρ c main_v24 = V2 m ρ c main_v24 := keep m ρ c main_v24 (by decide +kernel) (by decide +kernel)
  rw [h2, h3, h14, h24]
  exact weights0 m ρ c

section

variable (X : Valuation τ sig (Elt Ideal))

/-- A lane of a table of one row. -/
theorem one_row {n : ℕ} (p : Fin n) : ((⟨2, ![1, n]⟩ : Shape).rowMajor (ix2 0 p)).val = p := by
  rw [Shape.rowMajor_val_two]; simp

/-- The first kernel's mask of the left neighbour. -/
theorem left_word (p : Fin 16384) :
    (after hostOps0 X (Proc.devRef .tc main_cst) : FVec Ideal S1x16384 .bf16) (ix2 0 p) = Ideal.ofBits .bf16 (lit0t p) := by
  after_reads_simp
  exact congrArg (fun q => Ideal.ofBits .bf16 (lit0t q)) (one_row p)

/-- The first kernel's mask of the right neighbour. -/
theorem right_word (p : Fin 16384) :
    (after hostOps0 X (Proc.devRef .tc main_cst_0) : FVec Ideal S1x16384 .bf16) (ix2 0 p) = Ideal.ofBits .bf16 (lit1t p) := by
  after_reads_simp
  exact congrArg (fun q => Ideal.ofBits .bf16 (lit1t q)) (one_row p)

/-- The first kernel's horizontal positions. -/
theorem column_word (p : Fin 16384) :
    (after hostOps0 X (Proc.devRef .tc main_cst_1) : FVec Ideal S1x16384 .f32) (ix2 0 p) = Ideal.ofBits .f32 (lit2t p) := by
  after_reads_simp
  exact congrArg (fun q => Ideal.ofBits .f32 (lit2t q)) (one_row p)

/-- The first kernel's vertical positions. -/
theorem row_word (p : Fin 16384) :
    (after hostOps0 X (Proc.devRef .tc main_cst_2) : FVec Ideal S1x16384 .f32) (ix2 0 p) = Ideal.ofBits .f32 (lit3t p) := by
  after_reads_simp
  exact congrArg (fun q => Ideal.ofBits .f32 (lit3t q)) (one_row p)

/-- The first kernel's sides: the anchors' widths, then their heights. -/
theorem side_word (j : Fin 2) (a : Fin 9) :
    (after hostOps0 X (Proc.devRef .tc main_cst_3) : FVec Ideal S2x9x1 .f32) (ix3 j a 0)
      = Ideal.ofBits .f32 (lit4 ⟨9 * j + a, by omega⟩) := by
  after_reads_simp
  refine congrArg (fun q => Ideal.ofBits .f32 (lit4 q)) (Fin.ext ?_)
  refine (Shape.rowMajor_val_three _).trans ?_
  simp [Nat.mul_comm]

/-- The second kernel's mask of the left neighbour. -/
theorem left_deep (p : Fin 6144) :
    (after hostOps0 X (Proc.devRef .tc main_cst_4) : FVec Ideal S1x6144 .bf16) (ix2 0 p) = Ideal.ofBits .bf16 (lit5t p) := by
  after_reads_simp
  exact congrArg (fun q => Ideal.ofBits .bf16 (lit5t q)) (one_row p)

/-- The second kernel's mask of the right neighbour. -/
theorem right_deep (p : Fin 6144) :
    (after hostOps0 X (Proc.devRef .tc main_cst_5) : FVec Ideal S1x6144 .bf16) (ix2 0 p) = Ideal.ofBits .bf16 (lit6t p) := by
  after_reads_simp
  exact congrArg (fun q => Ideal.ofBits .bf16 (lit6t q)) (one_row p)

/-- The second kernel's horizontal positions. -/
theorem column_deep (p : Fin 6144) :
    (after hostOps0 X (Proc.devRef .tc main_cst_6) : FVec Ideal S1x6144 .f32) (ix2 0 p) = Ideal.ofBits .f32 (lit7t p) := by
  after_reads_simp
  exact congrArg (fun q => Ideal.ofBits .f32 (lit7t q)) (one_row p)

/-- The second kernel's vertical positions. -/
theorem row_deep (p : Fin 6144) :
    (after hostOps0 X (Proc.devRef .tc main_cst_7) : FVec Ideal S1x6144 .f32) (ix2 0 p) = Ideal.ofBits .f32 (lit8t p) := by
  after_reads_simp
  exact congrArg (fun q => Ideal.ofBits .f32 (lit8t q)) (one_row p)

/-- An entry of a table of nine rows. -/
theorem nine_rows (a : Fin 9) (p : Fin 6144) : (S9x6144.rowMajor (ix2 a p)).val = 6144 * a + p := by
  refine (Shape.rowMajor_val_two _).trans ?_
  simp [Nat.mul_comm]

/-- The second kernel's widths. -/
theorem width_deep (a : Fin 9) (p : Fin 6144) :
    (after hostOps0 X (Proc.devRef .tc main_cst_8) : FVec Ideal S9x6144 .f32) (ix2 a p) = Ideal.ofBits .f32 (lit9t (6144 * a + p)) := by
  after_reads_simp
  exact congrArg (fun q => Ideal.ofBits .f32 (lit9t q)) (nine_rows a p)

/-- The second kernel's heights. -/
theorem height_deep (a : Fin 9) (p : Fin 6144) :
    (after hostOps0 X (Proc.devRef .tc main_cst_9) : FVec Ideal S9x6144 .f32) (ix2 a p) = Ideal.ofBits .f32 (lit10t (6144 * a + p)) := by
  after_reads_simp
  exact congrArg (fun q => Ideal.ofBits .f32 (lit10t q)) (nine_rows a p)

end

/-- A mask's word is zero or one. -/
theorem mask_word {P : Prop} [Decidable P] : Ideal.ofBits .bf16 (if P then 0x0000#16 else 0x3F80#16) = if P then 0 else 1 := by
  split
  · exact Ideal.ofBits_zero_bf16
  · exact Ideal.ofBits_one_bf16

/-- A buffer the second kernel is entered with as the first stretch of host operations left it. -/
theorem entered (r : Ref sig .tc) (h : r ∉ between) (h3 : ∀ w : Fin cfg0.W, Pipeline.arrRef spec0 w = r → (cfg0.win w).isOut = false)
    (h2 : r ∉ hostOps0_1_W) : W18 m ρ c (Proc.devRef .tc r) = after hostOps0 (W0 m ρ c) (Proc.devRef .tc r) :=
  (keep m ρ c r h h3).trans (W2_of m ρ c r h2)

end Cert.KernelIdeal.Value

end
-- ==== Proof.Masks.lean ====
module

public import proofs.«01_k».proof.Proof.Tables

@[expose] public section

set_option maxRecDepth 16384

noncomputable section

/-! The second kernel's masks, level by level. -/

namespace Cert.KernelIdeal.Value

open Idealize.ShloMosaic Cert.KernelIdeal

/-- The two masks at row `y`, column `x` of a map of width `W` whose lanes begin at `o`: zero on its first, respectively
    last, column. -/
abbrev Masks (o W y x : ℕ) : Prop :=
  lit5t (o + (W * y + x)) = (if x = 0 then 0x0000#16 else 0x3F80#16)
    ∧ lit6t (o + (W * y + x)) = (if x + 1 = W then 0x0000#16 else 0x3F80#16)

/-- Level 1's masks. -/
theorem masks1 : ∀ y x : Fin 64, Masks 0 64 y x := by decide +kernel

/-- Level 2's masks. -/
theorem masks2 : ∀ y x : Fin 32, Masks 4096 32 y x := by decide +kernel

/-- Level 3's masks. -/
theorem masks3 : ∀ y x : Fin 16, Masks 5120 16 y x := by decide +kernel

/-- Level 4's masks. -/
theorem masks4 : ∀ y x : Fin 8, Masks 5376 8 y x := by decide +kernel

end Cert.KernelIdeal.Value

end
-- ==== Proof.Positions.lean ====
module

public import proofs.«01_k».proof.Proof.Tables

@[expose] public section

set_option maxRecDepth 16384

noncomputable section

/-! The second kernel's positions, level by level. -/

namespace Cert.KernelIdeal.Value

open Idealize.ShloMosaic Cert.KernelIdeal

/-- The position words at row `y`, column `x` of level `l`, whose map has width `W` and whose lanes begin at `o`. -/
abbrev Positions (l o W y x : ℕ) : Prop :=
  lit7t (o + (W * y + x)) = posWord l x ∧ lit8t (o + (W * y + x)) = posWord l y

/-- Level 1's positions. -/
theorem positions1 : ∀ y x : Fin 64, Positions 1 0 64 y x := by decide +kernel

/-- Level 2's positions. -/
theorem positions2 : ∀ y x : Fin 32, Positions 2 4096 32 y x := by decide +kernel

/-- Level 3's positions. -/
theorem positions3 : ∀ y x : Fin 16, Positions 3 5120 16 y x := by decide +kernel

/-- Level 4's positions. -/
theorem positions4 : ∀ y x : Fin 8, Positions 4 5376 8 y x := by decide +kernel

end Cert.KernelIdeal.Value

end
-- ==== Proof.Widths.lean ====
module

public import proofs.«01_k».proof.Proof.Tables

@[expose] public section

set_option maxRecDepth 16384

noncomputable section

/-! The second kernel's table of widths. -/

namespace Cert.KernelIdeal.Value

open Idealize.ShloMosaic Cert.KernelIdeal

/-- The level of the lanes `128 * r` to `128 * r + 127`, for the rows `r` that hold one level. -/
def widthLevel (r : ℕ) : ℕ := if r < 32 then 1 else if r < 40 then 2 else 3

set_option maxHeartbeats 8000000 in
/-- The anchors' widths on levels 1 to 3: one word per row of 128 lanes. -/
theorem width_row (i : ℕ) (hi : i / 128 < 432) (h : i / 128 % 48 < 42) :
    lit9t i = Spec.width (widthLevel (i / 128 % 48)) ⟨i / 128 / 48 % 9, Nat.mod_lt _ (by norm_num)⟩ := by
  unfold lit9t lit9t1_0 lit9t1_1 lit9t1_2 lit9t1_3
  have hj : i / 16384 = i / 128 / 128 := by omega
  generalize i / 16384 = j at *
  generalize i / 128 = y at *
  subst hj
  interval_cases y
  all_goals first
    | (exfalso; revert h; decide)
    | (refine (const_row _ (Nat.mod_lt _ (by norm_num)) _ _).trans ?_; decide +kernel)

/-- The anchors' widths on level 4. -/
theorem width_last : ∀ a : Fin 9, ∀ x : Fin 64, lit9t (6144 * a + (5376 + x)) = Spec.width 4 a := by
  decide +kernel

end Cert.KernelIdeal.Value

end
-- ==== Proof.Heights.lean ====
module

public import proofs.«01_k».proof.Proof.Tables

@[expose] public section

set_option maxRecDepth 16384

noncomputable section

/-! The second kernel's table of heights. -/

namespace Cert.KernelIdeal.Value

open Idealize.ShloMosaic Cert.KernelIdeal

/-- The level of the lanes `128 * r` to `128 * r + 127`, for the rows `r` that hold one level. -/
def heightLevel (r : ℕ) : ℕ := if r < 32 then 1 else if r < 40 then 2 else 3

set_option maxHeartbeats 8000000 in
/-- The anchors' heights on levels 1 to 3: one word per row of 128 lanes. -/
theorem height_row (i : ℕ) (hi : i / 128 < 432) (h : i / 128 % 48 < 42) :
    lit10t i = Spec.height (heightLevel (i / 128 % 48)) ⟨i / 128 / 48 % 9, Nat.mod_lt _ (by norm_num)⟩ := by
  unfold lit10t lit10t1_0 lit10t1_1 lit10t1_2 lit10t1_3
  have hj : i / 16384 = i / 128 / 128 := by omega
  generalize i / 16384 = j at *
  generalize i / 128 = y at *
  subst hj
  interval_cases y
  all_goals first
    | (exfalso; revert h; decide)
    | (refine (const_row _ (Nat.mod_lt _ (by norm_num)) _ _).trans ?_; decide +kernel)

/-- The anchors' heights on level 4. -/
theorem height_last : ∀ a : Fin 9, ∀ x : Fin 64, lit10t (6144 * a + (5376 + x)) = Spec.height 4 a := by
  decide +kernel

end Cert.KernelIdeal.Value

end
-- ==== Proof.Entry3.lean ====
module

public import proofs.«01_k».proof.Proof.Entry2
public import proofs.«01_k».proof.Proof.Masks
public import proofs.«01_k».proof.Proof.Positions
public import proofs.«01_k».proof.Proof.Widths
public import proofs.«01_k».proof.Proof.Heights

@[expose] public section

set_option maxRecDepth 16384

noncomputable section

/-! The two kernels, entered as the program enters them, write the boxes of the five levels. -/

namespace Cert.KernelIdeal.Value

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

/-- Level `l`'s box `n` of image `b`, of the program's weights. -/
abbrev box (l : ℕ) {H W : ℕ} (f : FVec Ideal ⟨4, ![2, 96, H, W]⟩ .f32) (b : Fin 2) (n : ℕ) : Fin 4 → EReal :=
  Spec.levelBox (m ((c : Thread nD τ).loc main_arg5)) (m ((c : Thread nD τ).loc main_arg6)) (m ((c : Thread nD τ).loc main_arg9))
    (m ((c : Thread nD τ).loc main_arg10)) l f b n

/-- The first kernel writes level 0's boxes. -/
theorem upper_box (b : Fin 2) (j : Fin 4) (n : ℕ) (p : Fin 16384) (hp : n / 9 = p) :
    first (V2 m ρ c main_v26) (V2 m ρ c main_v2) (V2 m ρ c main_v3) (V2 m ρ c main_v14) (V2 m ρ c main_v24) (V2 m ρ c main_cst_3)
        (V2 m ρ c main_cst) (V2 m ρ c main_cst_0) (V2 m ρ c main_cst_1) (V2 m ρ c main_cst_2) b j ⟨n % 9, by omega⟩ p
      = box m c 0 (H := 128) (W := 128) (m ((c : Thread nD τ).loc main_arg0)) b n j := by
  have h : V2 m ρ c main_cst = after hostOps0 (W0 m ρ c) (Proc.devRef .tc main_cst) := W2_of m ρ c main_cst (by decide +kernel)
  have h0 : V2 m ρ c main_cst_0 = after hostOps0 (W0 m ρ c) (Proc.devRef .tc main_cst_0) := W2_of m ρ c main_cst_0 (by decide +kernel)
  have h1 : V2 m ρ c main_cst_1 = after hostOps0 (W0 m ρ c) (Proc.devRef .tc main_cst_1) := W2_of m ρ c main_cst_1 (by decide +kernel)
  have h2 : V2 m ρ c main_cst_2 = after hostOps0 (W0 m ρ c) (Proc.devRef .tc main_cst_2) := W2_of m ρ c main_cst_2 (by decide +kernel)
  have h3 : V2 m ρ c main_cst_3 = after hostOps0 (W0 m ρ c) (Proc.devRef .tc main_cst_3) := W2_of m ρ c main_cst_3 (by decide +kernel)
  rw [h, h0, h1, h2, h3]
  refine first_level (weights0 m ρ c) _ _ _ _ _ _ _ (fun b k P => wide_at (W0 m ρ c) b k P) (fun a => ?_) (fun a => ?_) (fun p => ?_) (fun p => ?_)
    (fun p => ?_) (fun p => ?_) b j n p hp
  · refine (side_word _ 0 a).trans (congrArg _ (Eq.trans (congrArg lit4 (Fin.ext ?_)) (sides0 a).1))
    simp
  · exact (side_word _ 1 a).trans (congrArg _ (sides0 a).2)
  · exact (left_word _ p).trans ((congrArg _ (left0 p p.isLt)).trans mask_word)
  · exact (right_word _ p).trans ((congrArg _ (right0 p p.isLt)).trans mask_word)
  · exact (column_word _ p).trans ((congrArg _ (column0 p p.isLt)).trans (posWord_eq 0 _ (by norm_num) (by omega)))
  · exact (row_word _ p).trans ((congrArg _ (row0 p p.isLt)).trans (posWord_eq 0 _ (by norm_num) (by have := p.isLt; omega)))

/-- The second kernel writes level `l`'s boxes on the lanes `o` to `o + H * W - 1`, where its tables are level `l`'s. -/
theorem lower_box (l o H W : ℕ) (f : FVec Ideal ⟨4, ![2, 96, H, W]⟩ .f32) (hW : W ∣ 2048) (hW0 : 0 < W) (ho : W ∣ o) (hN : o + H * W ≤ 5440)
    (hl : l < 5) (hH8 : H ≤ 128) (hW8 : W ≤ 128) (hM : ∀ (y : Fin H) (x : Fin W), Masks o W y x)
    (hP : ∀ (y : Fin H) (x : Fin W), Positions l o W y x)
    (hw : ∀ (a : Fin 9) (q : ℕ), q < H * W → lit9t (6144 * a + (o + q)) = Spec.width l a)
    (hh : ∀ (a : Fin 9) (q : ℕ), q < H * W → lit10t (6144 * a + (o + q)) = Spec.height l a)
    (hx : ∀ (ky : Fin 3) (b : Fin 2) (k : Fin 96) (q : ℕ), q < H * W →
      lane (W3 m ρ c (Proc.devRef .tc main_arg1)) (W3 m ρ c (Proc.devRef .tc main_arg2)) (W3 m ρ c (Proc.devRef .tc main_arg3))
          (W3 m ρ c (Proc.devRef .tc main_arg4)) ky b k (o + q)
        = Spec.padded (fun k i j => f (ix4 b k i j)) k (q / W + ky) (q % W + 1))
    (b : Fin 2) (j : Fin 4) (n q : ℕ) (hq : n / 9 = q) (hn : q < H * W) :
    second (V18 m ρ c main_v58) (V18 m ρ c main_v2) (V18 m ρ c main_v3) (V18 m ρ c main_v14) (V18 m ρ c main_v24) (V18 m ρ c main_cst_4)
        (V18 m ρ c main_cst_5) (V18 m ρ c main_cst_6) (V18 m ρ c main_cst_7) (V18 m ρ c main_cst_8) (V18 m ρ c main_cst_9) b j
        ⟨n % 9, by omega⟩ ⟨o + q, by omega⟩
      = box m c l f b n j := by
  have h4 := entered m ρ c main_cst_4 (by decide +kernel) (by decide +kernel) (by decide +kernel)
  have h5 := entered m ρ c main_cst_5 (by decide +kernel) (by decide +kernel) (by decide +kernel)
  have h6 := entered m ρ c main_cst_6 (by decide +kernel) (by decide +kernel) (by decide +kernel)
  have h7 := entered m ρ c main_cst_7 (by decide +kernel) (by decide +kernel) (by decide +kernel)
  have h8 := entered m ρ c main_cst_8 (by decide +kernel) (by decide +kernel) (by decide +kernel)
  have h9 := entered m ρ c main_cst_9 (by decide +kernel) (by decide +kernel) (by decide +kernel)
  have hy (q : ℕ) (hq : q < H * W) : q / W < H := Nat.div_lt_of_lt_mul (by rw [Nat.mul_comm]; exact hq)
  have hm (q : ℕ) (hq : q < H * W) := hM ⟨q / W, hy q hq⟩ ⟨q % W, Nat.mod_lt _ hW0⟩
  have hp (q : ℕ) (hq : q < H * W) := hP ⟨q / W, hy q hq⟩ ⟨q % W, Nat.mod_lt _ hW0⟩
  simp only [Masks, Positions, Nat.div_add_mod] at hm hp
  refine second_level (weights1 m ρ c) l o H W f hW hW0 ho (by omega) _ _ _ _ _ _ _ (fun ky b k q hq => ?_) (fun a q hq => ?_) (fun a q hq => ?_)
    (fun q hq => ?_) (fun q hq => ?_) (fun q hq => ?_) (fun q hq => ?_) b j n q hq hn
  · exact (deep_at m ρ c ky b k ⟨o + q, by omega⟩).trans (hx ky b k q hq)
  · exact (congrFun h8 _).trans ((width_deep _ a _).trans (congrArg _ (hw a q hq)))
  · exact (congrFun h9 _).trans ((height_deep _ a _).trans (congrArg _ (hh a q hq)))
  · exact (congrFun h4 _).trans ((left_deep _ _).trans ((congrArg _ (hm q hq).1).trans mask_word))
  · exact (congrFun h5 _).trans ((right_deep _ _).trans ((congrArg _ (hm q hq).2).trans mask_word))
  · have := Nat.mod_lt q hW0
    exact (congrFun h6 _).trans ((column_deep _ _).trans ((congrArg _ (hp q hq).1).trans (posWord_eq l _ hl (by omega))))
  · have := hy q hq
    exact (congrFun h7 _).trans ((row_deep _ _).trans ((congrArg _ (hp q hq).2).trans (posWord_eq l _ hl (by omega))))

/-- Where the second kernel's widths are level `l`'s. -/
theorem widths_at (l o q : ℕ) (a : Fin 9) (h : (o + q) / 128 < 42) (hl : widthLevel ((o + q) / 128) = l) :
    lit9t (6144 * a + (o + q)) = Spec.width l a := by
  have h1 : (6144 * (a : ℕ) + (o + q)) / 128 % 48 = (o + q) / 128 := by omega
  refine (width_row _ (by omega) (by omega)).trans ?_
  rw [h1, hl]
  exact congrArg _ (Fin.ext (by simp only; omega))

/-- Where the second kernel's heights are level `l`'s. -/
theorem heights_at (l o q : ℕ) (a : Fin 9) (h : (o + q) / 128 < 42) (hl : heightLevel ((o + q) / 128) = l) :
    lit10t (6144 * a + (o + q)) = Spec.height l a := by
  have h1 : (6144 * (a : ℕ) + (o + q)) / 128 % 48 = (o + q) / 128 := by omega
  refine (height_row _ (by omega) (by omega)).trans ?_
  rw [h1, hl]
  exact congrArg _ (Fin.ext (by simp only; omega))

end Cert.KernelIdeal.Value

end
-- ==== Proof.Exit.lean ====
module

public import proofs.«01_k».proof.Proof.Gen.KernelIdeal.Launch
public import Idealize.ShloMosaic.Lib.Pointwise
public import Idealize.ShloMosaic.Lib.StableHlo.ReadAt

@[expose] public section

set_option maxRecDepth 16384

noncomputable section

/-! The last stretch of host operations: the two kernels' outputs, each brought to one box per row, one under the other. -/

namespace Cert.KernelIdeal.Value

open Idealize.ShloMosaic Idealize.ShloMosaic.TcCoe Idealize.ShloMosaic.StableHlo Cert.KernelIdeal Cert.KernelIdeal.Gen

/-- The boxes of the first kernel, one per row. -/
theorem upper_at (A : FVec Ideal S2x4x9x16384 .bf16) (b : Fin 2) (n : Fin 147456) (c : Fin 4) :
    shapeCast S2x147456x4 (extf .f32 (transpose S2x16384x9x4 [0, 3, 2, 1] A transposes_S2x4x9x16384_S2x16384x9x4_0_3_2_1) bitsLt_bf16_f32)
      shapeCasts_S2x16384x9x4_S2x147456x4 (ix3 b n c) = A (ix4 b c ⟨n % 9, by omega⟩ ⟨n / 9, by omega⟩) := by
  pointwise

/-- The boxes of the second kernel, one per row. -/
theorem lower_at (A : FVec Ideal S2x4x9x6144 .bf16) (b : Fin 2) (n : Fin 48960) (c : Fin 4) :
    shapeCast S2x48960x4 (extf .f32 (transpose S2x5440x9x4 [0, 3, 2, 1]
        (extractStridedSlice S2x4x9x5440 ![0, 0, 0, 0] A slices_S2x4x9x6144_S2x4x9x5440_0_0_0_0)
        transposes_S2x4x9x5440_S2x5440x9x4_0_3_2_1) bitsLt_bf16_f32)
      shapeCasts_S2x5440x9x4_S2x48960x4 (ix3 b n c) = A (ix4 b c ⟨n % 9, by omega⟩ ⟨n / 9, by omega⟩) := by
  pointwise

/-- One array of boxes set under another. -/
theorem under_at (A : FVec Ideal S2x147456x4 .f32) (B : FVec Ideal S2x48960x4 .f32) (b : Fin 2) (n : Fin 196416) (c : Fin 4) :
    concatenate S2x196416x4 1 [⟨S2x147456x4, A⟩, ⟨S2x48960x4, B⟩] concatenates_S2x147456x4_S2x48960x4_S2x196416x4_d1 (ix3 b n c)
      = if h : (n : ℕ) < 147456 then A (ix3 b ⟨n, h⟩ c) else B (ix3 b ⟨n - 147456, by omega⟩ c) := by
  pointwise

/-- The result's entries: the first kernel's boxes, then the second's. -/
theorem exit_at (X : Valuation τ sig (Elt Ideal)) (b : Fin 2) (n : Fin 196416) (c : Fin 4) :
    (after hostOps2 X (Proc.devRef .tc main_v67) : FVec Ideal S2x196416x4 .f32) (ix3 b n c)
      = if h : (n : ℕ) < 147456 then (X (Proc.devRef .tc main_v27) : FVec Ideal S2x4x9x16384 .bf16) (ix4 b c ⟨n % 9, by omega⟩ ⟨n / 9, by omega⟩)
        else (X (Proc.devRef .tc main_v59) : FVec Ideal S2x4x9x6144 .bf16) (ix4 b c ⟨(n - 147456) % 9, by omega⟩ ⟨(n - 147456) / 9, by omega⟩) := by
  after_reads_simp
  refine (under_at _ _ b n c).trans ?_
  by_cases h : (n : ℕ) < 147456
  · rw [dif_pos h, dif_pos h]; exact upper_at (X (Proc.devRef .tc main_v27)) b ⟨n, h⟩ c
  · rw [dif_neg h, dif_neg h]; exact lower_at (X (Proc.devRef .tc main_v59)) b ⟨n - 147456, by omega⟩ c

end Cert.KernelIdeal.Value

end
-- ==== Proof.Block0.lean ====
module

public import proofs.«01_k».proof.Proof.Gen.KernelIdeal.Skeleton
public import proofs.«01_k».proof.Proof.Spec

@[expose] public section

set_option maxRecDepth 16384

noncomputable section

/-! What one block of the first region computes: the four stored planes, entry by entry, from the loaded
    vectors (whose entries the hypotheses name). -/

namespace Cert.KernelIdeal.Value

open Idealize.ShloMosaic Cert.KernelIdeal Cert.KernelIdeal.Gen

variable {v4 v9 v14 : Vec Ideal S1x96x2048 .f32} {v18 v19 : Vec Ideal S1x2048 .bf16}
  {v25 v29 v38 v47 v51 v60 v69 v73 v82 : Vec Ideal S1x96x96 .bf16} {v92 : Vec Ideal S96x1 .f32}
  {v90 v91 : Vec Ideal S1x2048 .f32} {v86 v88 : Vec Ideal S1x9x1 .f32}
  {v99 v106 v113 v120 : Vec Ideal S1x9x96 .bf16} {v102 v109 v116 v123 : Vec Ideal S1x9x1 .f32}
  {s : Fin 3 → Fin 96 → Fin 2048 → EReal} {W : Fin 96 → Fin 96 → Fin 3 → Fin 3 → EReal} {b : Fin 96 → EReal}
  {R : Fin 4 → Fin 96 → EReal} {d : Fin 4 → EReal} {ml mr w h x y : EReal} (a : Fin 9) (l : Fin 2048)
  (h4 : ∀ k l, v4 (ix3 0 k l) = s 0 k l)
  (h9 : ∀ k l, v9 (ix3 0 k l) = s 1 k l)
  (h14 : ∀ k l, v14 (ix3 0 k l) = s 2 k l)
  (h18 : v18 (ix2 0 l) = ml)
  (h19 : v19 (ix2 0 l) = mr)
  (h25 : ∀ o k, v25 (ix3 0 o k) = W o k 0 0)
  (h29 : ∀ o k, v29 (ix3 0 o k) = W o k 0 1)
  (h38 : ∀ o k, v38 (ix3 0 o k) = W o k 0 2)
  (h47 : ∀ o k, v47 (ix3 0 o k) = W o k 1 0)
  (h51 : ∀ o k, v51 (ix3 0 o k) = W o k 1 1)
  (h60 : ∀ o k, v60 (ix3 0 o k) = W o k 1 2)
  (h69 : ∀ o k, v69 (ix3 0 o k) = W o k 2 0)
  (h73 : ∀ o k, v73 (ix3 0 o k) = W o k 2 1)
  (h82 : ∀ o k, v82 (ix3 0 o k) = W o k 2 2)
  (h92 : ∀ o, v92 (ix2 o 0) = b o)

include h4 h9 h14 h18 h19 h25 h29 h38 h47 h51 h60 h69 h73 h82 h92

/-- Plane 0 of the block: coordinate 0 of the box, at anchor `a` and lane `l`. -/
theorem block0_0
    (h86 : v86 (ix3 0 a 0) = w) (h90 : v90 (ix2 0 l) = x) (h99 : ∀ k, v99 (ix3 0 a k) = R 0 k) (h102 : v102 (ix3 0 a 0) = d 0) (h113 : ∀ k, v113 (ix3 0 a k) = R 2 k) (h116 : v116 (ix3 0 a 0) = d 2) :
    k0_pay18 (k0_pay14 (k0_pay9 v86) v90 (k0_pay12 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92 v99 v102)) (k0_pay16 (k0_pay9 v86) (k0_pay11 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92) v113 v116) (ix4 0 0 a l) = Spec.box (Spec.delta (Spec.hidden (fun ky kx k => Spec.tap (s ky k) ml mr l kx) W b) R d) w h x y 0 := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21,
    Spec.box, Spec.side, Spec.half, Spec.delta, Spec.hidden, Spec.conv, Spec.tap, Matrix.cons_val,
    h4, h9, h14, h18, h19, h25, h29, h38, h47, h51, h60, h69, h73, h82, h92, h86, h90, h99, h102, h113, h116]

/-- Plane 1 of the block: coordinate 1 of the box, at anchor `a` and lane `l`. -/
theorem block0_1
    (h88 : v88 (ix3 0 a 0) = h) (h91 : v91 (ix2 0 l) = y) (h106 : ∀ k, v106 (ix3 0 a k) = R 1 k) (h109 : v109 (ix3 0 a 0) = d 1) (h120 : ∀ k, v120 (ix3 0 a k) = R 3 k) (h123 : v123 (ix3 0 a 0) = d 3) :
    k0_pay19 (k0_pay10 v88) (k0_pay13 (k0_pay11 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92) v120 v123) (k0_pay15 (k0_pay10 v88) v91 (k0_pay11 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92) v106 v109) (FloatOps.ofBits .f32 0xC0845349#32) (FloatOps.ofBits .f32 0x40845349#32) (ix4 0 0 a l) = Spec.box (Spec.delta (Spec.hidden (fun ky kx k => Spec.tap (s ky k) ml mr l kx) W b) R d) w h x y 1 := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21,
    Spec.box, Spec.side, Spec.half, Spec.delta, Spec.hidden, Spec.conv, Spec.tap, Matrix.cons_val,
    h4, h9, h14, h18, h19, h25, h29, h38, h47, h51, h60, h69, h73, h82, h92, h88, h91, h106, h109, h120, h123]

/-- Plane 2 of the block: coordinate 2 of the box, at anchor `a` and lane `l`. -/
theorem block0_2
    (h86 : v86 (ix3 0 a 0) = w) (h90 : v90 (ix2 0 l) = x) (h99 : ∀ k, v99 (ix3 0 a k) = R 0 k) (h102 : v102 (ix3 0 a 0) = d 0) (h113 : ∀ k, v113 (ix3 0 a k) = R 2 k) (h116 : v116 (ix3 0 a 0) = d 2) :
    k0_pay20 (k0_pay14 (k0_pay9 v86) v90 (k0_pay12 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92 v99 v102)) (k0_pay16 (k0_pay9 v86) (k0_pay11 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92) v113 v116) (ix4 0 0 a l) = Spec.box (Spec.delta (Spec.hidden (fun ky kx k => Spec.tap (s ky k) ml mr l kx) W b) R d) w h x y 2 := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21,
    Spec.box, Spec.side, Spec.half, Spec.delta, Spec.hidden, Spec.conv, Spec.tap, Matrix.cons_val,
    h4, h9, h14, h18, h19, h25, h29, h38, h47, h51, h60, h69, h73, h82, h92, h86, h90, h99, h102, h113, h116]

/-- Plane 3 of the block: coordinate 3 of the box, at anchor `a` and lane `l`. -/
theorem block0_3
    (h88 : v88 (ix3 0 a 0) = h) (h91 : v91 (ix2 0 l) = y) (h106 : ∀ k, v106 (ix3 0 a k) = R 1 k) (h109 : v109 (ix3 0 a 0) = d 1) (h120 : ∀ k, v120 (ix3 0 a k) = R 3 k) (h123 : v123 (ix3 0 a 0) = d 3) :
    k0_pay1 (k0_pay21 (k0_pay10 v88) (k0_pay13 (k0_pay11 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92) v120 v123) (k0_pay15 (k0_pay10 v88) v91 (k0_pay11 (F := Ideal) (k0_pay4 v14) v19 (k0_pay8 (k0_pay3 v9) (k0_pay4 v14) v18 v19 (k0_pay5 v4 v18 v25 v29) (k0_pay6 v4) (k0_pay7 v4)
        v38 v47 v51 v60 v69) v73 v82 v92) v106 v109) (FloatOps.ofBits .f32 0xC0845349#32) (FloatOps.ofBits .f32 0x40845349#32)) (ix4 0 0 a l) = Spec.box (Spec.delta (Spec.hidden (fun ky kx k => Spec.tap (s ky k) ml mr l kx) W b) R d) w h x y 3 := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21,
    Spec.box, Spec.side, Spec.half, Spec.delta, Spec.hidden, Spec.conv, Spec.tap, Matrix.cons_val,
    h4, h9, h14, h18, h19, h25, h29, h38, h47, h51, h60, h69, h73, h82, h92, h88, h91, h106, h109, h120, h123]

end Cert.KernelIdeal.Value

end
-- ==== Proof.Region0.lean ====
module

public import proofs.«01_k».proof.Proof.Gen.KernelIdeal.Frame
public import Idealize.ShloMosaic.Lib.Pipeline.ValueKit
public import proofs.«01_k».proof.Proof.Arrays
public import proofs.«01_k».proof.Proof.Block0

@[expose] public section

set_option maxRecDepth 16384

noncomputable section

/-! The first region's result array: what the sixteen blocks leave in it. -/

namespace Cert.KernelIdeal.Value

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The block every window moves at grid point `t`. -/
theorem idx0 : ∀ t : Fin cfg0.N, win0_0.index t = ![t.val / 8, 0, 0] ∧ win0_1.index t = ![0, 0, 0] ∧ win0_2.index t = ![0, 0]
    ∧ win0_3.index t = ![0, 0, 0] ∧ win0_4.index t = ![0, 0, 0] ∧ win0_5.index t = ![0, 0, 0]
    ∧ win0_6.index t = ![0, t.val % 8] ∧ win0_7.index t = ![0, t.val % 8] ∧ win0_8.index t = ![0, t.val % 8]
    ∧ win0_9.index t = ![0, t.val % 8] ∧ win0_10.index t = ![t.val / 8, 0, 0, t.val % 8] :=
  (by decide +kernel : ∀ t : Fin grid0.N, _)

/-- Where the three row slabs of grid point `t` start in the padded rows. -/
theorem off0 : ∀ t : Fin cfg0.N, k0_off1 (grid0.coords t) 0#32 = ![0, 0, t.val % 8 * 2048]
    ∧ k0_off1 (grid0.coords t) 128#32 = ![0, 0, t.val % 8 * 2048 + 128]
    ∧ k0_off1 (grid0.coords t) 256#32 = ![0, 0, t.val % 8 * 2048 + 256] :=
  (by decide +kernel : ∀ t : Fin grid0.N, _)

set_option maxHeartbeats 16000000 in
/-- The first region's result holds `first` of the arrays the region finds. -/
theorem final0 (c : Dev nD) : (dat0 (F := Ideal) V c).arrAt 10 cfg0.N
    = fun i => first (V c main_v26) (V c main_v2) (V c main_v3) (V c main_v14) (V c main_v24) (V c main_cst_3)
        (V c main_cst) (V c main_cst_0) (V c main_cst_1) (V c main_cst_2) (i 0) (i 1) (i 2) (i 3) := by
  refine (dat0 V c).arrAt_eq_of_covers 10 _ (by decide +kernel) fun t hf y => ?_
  blk_simp
  rw [after0_10]
  unfold outsAt0
  frame_out
  have ht : t.val < 16 := lt_of_lt_of_eq t.isLt N_0
  obtain ⟨s, hs⟩ : ∃ s : Fin 3 → Fin 96 → Fin 2048 → EReal, s = fun (ky : Fin 3) k (l : Fin 2048) => (V c main_v26 : FVec Ideal S2x96x16640 .f32)
    (ix3 ⟨t.val / 8, by omega⟩ k ⟨2048 * (t.val % 8) + 128 * ky + l, by omega⟩) := ⟨_, rfl⟩
  obtain ⟨W, hW⟩ : ∃ W : Fin 96 → Fin 96 → Fin 3 → Fin 3 → EReal, W = fun o k (ky kx : Fin 3) => (V c main_v2 : FVec Ideal S9x96x96 .bf16)
    (ix3 ⟨3 * ky + kx, by omega⟩ o k) := ⟨_, rfl⟩
  obtain ⟨b, hb⟩ : ∃ b : Fin 96 → EReal, b = fun o => (V c main_v3 : FVec Ideal S96x1 .f32) (ix2 o 0) := ⟨_, rfl⟩
  obtain ⟨R, hR⟩ : ∃ R : Fin 9 → Fin 4 → Fin 96 → EReal, R = fun a i k => (V c main_v14 : FVec Ideal S4x9x96 .bf16) (ix3 i a k) := ⟨_, rfl⟩
  obtain ⟨d, hd⟩ : ∃ d : Fin 9 → Fin 4 → EReal, d = fun a i => (V c main_v24 : FVec Ideal S4x9x1 .f32) (ix3 i a 0) := ⟨_, rfl⟩
  obtain ⟨an, han⟩ : ∃ an : Fin 9 → Fin 2 → EReal, an = fun a i => (V c main_cst_3 : FVec Ideal S2x9x1 .f32) (ix3 i a 0) := ⟨_, rfl⟩
  obtain ⟨ml, hml⟩ : ∃ ml : Fin 2048 → EReal, ml = fun (l : Fin 2048) => (V c main_cst : FVec Ideal S1x16384 .bf16) (ix2 0 ⟨2048 * (t.val % 8) + l, by omega⟩) := ⟨_, rfl⟩
  obtain ⟨mr, hmr⟩ : ∃ mr : Fin 2048 → EReal, mr = fun (l : Fin 2048) => (V c main_cst_0 : FVec Ideal S1x16384 .bf16) (ix2 0 ⟨2048 * (t.val % 8) + l, by omega⟩) := ⟨_, rfl⟩
  obtain ⟨cx, hcx⟩ : ∃ cx : Fin 2048 → EReal, cx = fun (l : Fin 2048) => (V c main_cst_1 : FVec Ideal S1x16384 .f32) (ix2 0 ⟨2048 * (t.val % 8) + l, by omega⟩) := ⟨_, rfl⟩
  obtain ⟨cy, hcy⟩ : ∃ cy : Fin 2048 → EReal, cy = fun (l : Fin 2048) => (V c main_cst_2 : FVec Ideal S1x16384 .f32) (ix2 0 ⟨2048 * (t.val % 8) + l, by omega⟩) := ⟨_, rfl⟩
  canon_tiles x h
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block0_3 (s := s) (W := W) (b := b) (R := R x2) (d := d x2) (ml := ml x3) (mr := mr x3) (w := an x2 0) (h := an x2 1)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk0, idx0 t, off0 t]
    · subst hml; blk_ext [iblk0, idx0 t]
    · subst hmr; blk_ext [iblk0, idx0 t]
    iterate 9
      · intro o k; subst hW; pointwise; blk_ext [iblk0, idx0 t]
    · intro o; subst hb; blk_ext [iblk0, idx0 t]
    · subst han; pointwise; blk_ext [iblk0, idx0 t]
    · subst hcy; blk_ext [iblk0, idx0 t]
    iterate 2
      · intro k; subst hR; pointwise; blk_ext [iblk0, idx0 t]
      · subst hd; pointwise; blk_ext [iblk0, idx0 t]
    subst hs hW hb hR hd han hml hmr hcx hcy
    refine first_at (T := t.val % 8) _ _ _ _ _ _ _ _ _ _ (by omega) ?_ ?_ ?_ ?_
    all_goals blk_simp [idx0 t, h0, h1, h2, h3]
    all_goals first | rfl | omega | (simp; done) | (simp; omega)
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block0_2 (s := s) (W := W) (b := b) (R := R x2) (d := d x2) (ml := ml x3) (mr := mr x3) (w := an x2 0) (h := an x2 1)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk0, idx0 t, off0 t]
    · subst hml; blk_ext [iblk0, idx0 t]
    · subst hmr; blk_ext [iblk0, idx0 t]
    iterate 9
      · intro o k; subst hW; pointwise; blk_ext [iblk0, idx0 t]
    · intro o; subst hb; blk_ext [iblk0, idx0 t]
    · subst han; pointwise; blk_ext [iblk0, idx0 t]
    · subst hcx; blk_ext [iblk0, idx0 t]
    iterate 2
      · intro k; subst hR; pointwise; blk_ext [iblk0, idx0 t]
      · subst hd; pointwise; blk_ext [iblk0, idx0 t]
    subst hs hW hb hR hd han hml hmr hcx hcy
    refine first_at (T := t.val % 8) _ _ _ _ _ _ _ _ _ _ (by omega) ?_ ?_ ?_ ?_
    all_goals blk_simp [idx0 t, h0, h1, h2, h3]
    all_goals first | rfl | omega | (simp; done) | (simp; omega)
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block0_1 (s := s) (W := W) (b := b) (R := R x2) (d := d x2) (ml := ml x3) (mr := mr x3) (w := an x2 0) (h := an x2 1)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk0, idx0 t, off0 t]
    · subst hml; blk_ext [iblk0, idx0 t]
    · subst hmr; blk_ext [iblk0, idx0 t]
    iterate 9
      · intro o k; subst hW; pointwise; blk_ext [iblk0, idx0 t]
    · intro o; subst hb; blk_ext [iblk0, idx0 t]
    · subst han; pointwise; blk_ext [iblk0, idx0 t]
    · subst hcy; blk_ext [iblk0, idx0 t]
    iterate 2
      · intro k; subst hR; pointwise; blk_ext [iblk0, idx0 t]
      · subst hd; pointwise; blk_ext [iblk0, idx0 t]
    subst hs hW hb hR hd han hml hmr hcx hcy
    refine first_at (T := t.val % 8) _ _ _ _ _ _ _ _ _ _ (by omega) ?_ ?_ ?_ ?_
    all_goals blk_simp [idx0 t, h0, h1, h2, h3]
    all_goals first | rfl | omega | (simp; done) | (simp; omega)
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block0_0 (s := s) (W := W) (b := b) (R := R x2) (d := d x2) (ml := ml x3) (mr := mr x3) (w := an x2 0) (h := an x2 1)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk0, idx0 t, off0 t]
    · subst hml; blk_ext [iblk0, idx0 t]
    · subst hmr; blk_ext [iblk0, idx0 t]
    iterate 9
      · intro o k; subst hW; pointwise; blk_ext [iblk0, idx0 t]
    · intro o; subst hb; blk_ext [iblk0, idx0 t]
    · subst han; pointwise; blk_ext [iblk0, idx0 t]
    · subst hcx; blk_ext [iblk0, idx0 t]
    iterate 2
      · intro k; subst hR; pointwise; blk_ext [iblk0, idx0 t]
      · subst hd; pointwise; blk_ext [iblk0, idx0 t]
    subst hs hW hb hR hd han hml hmr hcx hcy
    refine first_at (T := t.val % 8) _ _ _ _ _ _ _ _ _ _ (by omega) ?_ ?_ ?_ ?_
    all_goals blk_simp [idx0 t, h0, h1, h2, h3]
    all_goals first | rfl | omega | (simp; done) | (simp; omega)

end Cert.KernelIdeal.Value

end
-- ==== Proof.Block1.lean ====
module

public import proofs.«01_k».proof.Proof.Gen.KernelIdeal.Skeleton
public import proofs.«01_k».proof.Proof.Spec

@[expose] public section

set_option maxRecDepth 16384

noncomputable section

/-! What one block of the second region computes: the four stored planes, entry by entry, from the loaded
    vectors (whose entries the hypotheses name). -/

namespace Cert.KernelIdeal.Value

open Idealize.ShloMosaic Cert.KernelIdeal Cert.KernelIdeal.Gen

variable {v0 v2 v4 : Vec Ideal S1x1x96x2048 .bf16} {v7 v8 : Vec Ideal S1x2048 .bf16}
  {v14 v18 v27 v36 v40 v49 v58 v62 v71 : Vec Ideal S1x96x96 .bf16} {v79 : Vec Ideal S96x1 .f32}
  {v77 v78 : Vec Ideal S1x2048 .f32} {v75 v76 : Vec Ideal S9x2048 .f32}
  {v86 v93 v100 v107 : Vec Ideal S1x9x96 .bf16} {v89 v96 v103 v110 : Vec Ideal S1x9x1 .f32}
  {s : Fin 3 → Fin 96 → Fin 2048 → EReal} {W : Fin 96 → Fin 96 → Fin 3 → Fin 3 → EReal} {b : Fin 96 → EReal}
  {R : Fin 4 → Fin 96 → EReal} {d : Fin 4 → EReal} {ml mr w h x y : EReal} (a : Fin 9) (l : Fin 2048)
  (h0 : ∀ k l, v0 (ix4 0 0 k l) = s 0 k l)
  (h2 : ∀ k l, v2 (ix4 0 0 k l) = s 1 k l)
  (h4 : ∀ k l, v4 (ix4 0 0 k l) = s 2 k l)
  (h7 : v7 (ix2 0 l) = ml)
  (h8 : v8 (ix2 0 l) = mr)
  (h14 : ∀ o k, v14 (ix3 0 o k) = W o k 0 0)
  (h18 : ∀ o k, v18 (ix3 0 o k) = W o k 0 1)
  (h27 : ∀ o k, v27 (ix3 0 o k) = W o k 0 2)
  (h36 : ∀ o k, v36 (ix3 0 o k) = W o k 1 0)
  (h40 : ∀ o k, v40 (ix3 0 o k) = W o k 1 1)
  (h49 : ∀ o k, v49 (ix3 0 o k) = W o k 1 2)
  (h58 : ∀ o k, v58 (ix3 0 o k) = W o k 2 0)
  (h62 : ∀ o k, v62 (ix3 0 o k) = W o k 2 1)
  (h71 : ∀ o k, v71 (ix3 0 o k) = W o k 2 2)
  (h79 : ∀ o, v79 (ix2 o 0) = b o)

include h0 h2 h4 h7 h8 h14 h18 h27 h36 h40 h49 h58 h62 h71 h79

/-- Plane 0 of the block: coordinate 0 of the box, at anchor `a` and lane `l`. -/
theorem block1_0
    (h75 : v75 (ix2 a l) = w) (h77 : v77 (ix2 0 l) = x) (h86 : ∀ k, v86 (ix3 0 a k) = R 0 k) (h89 : v89 (ix3 0 a 0) = d 0) (h100 : ∀ k, v100 (ix3 0 a k) = R 2 k) (h103 : v103 (ix3 0 a 0) = d 2) :
    k1_pay1 (k1_pay20 v75 v77 (k1_pay13 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79) (k1_pay14 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79 v86 v89) v100 v103) (ix4 0 0 a l) = Spec.box (Spec.delta (Spec.hidden (fun ky kx k => Spec.tap (s ky k) ml mr l kx) W b) R d) w h x y 0 := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
    Spec.box, Spec.side, Spec.half, Spec.delta, Spec.hidden, Spec.conv, Spec.tap, Matrix.cons_val,
    h0, h2, h4, h7, h8, h14, h18, h27, h36, h40, h49, h58, h62, h71, h79, h75, h77, h86, h89, h100, h103]

/-- Plane 1 of the block: coordinate 1 of the box, at anchor `a` and lane `l`. -/
theorem block1_1
    (h76 : v76 (ix2 a l) = h) (h78 : v78 (ix2 0 l) = y) (h93 : ∀ k, v93 (ix3 0 a k) = R 1 k) (h96 : v96 (ix3 0 a 0) = d 1) (h107 : ∀ k, v107 (ix3 0 a k) = R 3 k) (h110 : v110 (ix3 0 a 0) = d 3) :
    k1_pay2 (k1_pay17 v76 v78 (k1_pay15 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79 v93 v96)) (k1_pay19 v76 (k1_pay13 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79) v107 v110) (ix4 0 0 a l) = Spec.box (Spec.delta (Spec.hidden (fun ky kx k => Spec.tap (s ky k) ml mr l kx) W b) R d) w h x y 1 := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
    Spec.box, Spec.side, Spec.half, Spec.delta, Spec.hidden, Spec.conv, Spec.tap, Matrix.cons_val,
    h0, h2, h4, h7, h8, h14, h18, h27, h36, h40, h49, h58, h62, h71, h79, h76, h78, h93, h96, h107, h110]

/-- Plane 2 of the block: coordinate 2 of the box, at anchor `a` and lane `l`. -/
theorem block1_2
    (h75 : v75 (ix2 a l) = w) (h77 : v77 (ix2 0 l) = x) (h86 : ∀ k, v86 (ix3 0 a k) = R 0 k) (h89 : v89 (ix3 0 a 0) = d 0) (h100 : ∀ k, v100 (ix3 0 a k) = R 2 k) (h103 : v103 (ix3 0 a 0) = d 2) :
    k1_pay3 (k1_pay16 v75 v77 (k1_pay14 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79 v86 v89)) (k1_pay18 v75 (k1_pay13 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79) v100 v103) (ix4 0 0 a l) = Spec.box (Spec.delta (Spec.hidden (fun ky kx k => Spec.tap (s ky k) ml mr l kx) W b) R d) w h x y 2 := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
    Spec.box, Spec.side, Spec.half, Spec.delta, Spec.hidden, Spec.conv, Spec.tap, Matrix.cons_val,
    h0, h2, h4, h7, h8, h14, h18, h27, h36, h40, h49, h58, h62, h71, h79, h75, h77, h86, h89, h100, h103]

/-- Plane 3 of the block: coordinate 3 of the box, at anchor `a` and lane `l`. -/
theorem block1_3
    (h76 : v76 (ix2 a l) = h) (h78 : v78 (ix2 0 l) = y) (h93 : ∀ k, v93 (ix3 0 a k) = R 1 k) (h96 : v96 (ix3 0 a 0) = d 1) (h107 : ∀ k, v107 (ix3 0 a k) = R 3 k) (h110 : v110 (ix3 0 a 0) = d 3) :
    k1_pay4 (k1_pay17 v76 v78 (k1_pay15 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79 v93 v96)) (k1_pay19 v76 (k1_pay13 (F := Ideal) v8 (k1_pay11 (k1_pay6 v2) (k1_pay7 v4) v7 v8 (k1_pay8 v0 v7 v14 v18) (k1_pay9 v0 v8) (k1_pay10 v27) (constant S96x2048 .f32 0x00000000#32)
        v36 v40 v49 v58 v62) (k1_pay12 (k1_pay7 v4)) v71 v79) v107 v110) (ix4 0 0 a l) = Spec.box (Spec.delta (Spec.hidden (fun ky kx k => Spec.tap (s ky k) ml mr l kx) W b) R d) w h x y 3 := by
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20,
    Spec.box, Spec.side, Spec.half, Spec.delta, Spec.hidden, Spec.conv, Spec.tap, Matrix.cons_val,
    h0, h2, h4, h7, h8, h14, h18, h27, h36, h40, h49, h58, h62, h71, h79, h76, h78, h93, h96, h107, h110]

end Cert.KernelIdeal.Value

end
-- ==== Proof.Region1.lean ====
module

public import proofs.«01_k».proof.Proof.Gen.KernelIdeal.Frame
public import Idealize.ShloMosaic.Lib.Pipeline.ValueKit
public import proofs.«01_k».proof.Proof.Arrays
public import proofs.«01_k».proof.Proof.Block1

@[expose] public section

set_option maxRecDepth 16384

noncomputable section

/-! The second region's result array: what the six blocks leave in it. -/

namespace Cert.KernelIdeal.Value

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-- The block every window moves at grid point `t`. -/
theorem idx1 : ∀ t : Fin cfg1.N, win1_0.index t = ![0, t.val / 3, 0, t.val % 3] ∧ win1_1.index t = ![0, 0, 0] ∧ win1_2.index t = ![0, 0]
    ∧ win1_3.index t = ![0, 0, 0] ∧ win1_4.index t = ![0, 0, 0] ∧ win1_5.index t = ![0, t.val % 3]
    ∧ win1_6.index t = ![0, t.val % 3] ∧ win1_7.index t = ![0, t.val % 3] ∧ win1_8.index t = ![0, t.val % 3]
    ∧ win1_9.index t = ![0, t.val % 3] ∧ win1_10.index t = ![0, t.val % 3] ∧ win1_11.index t = ![t.val / 3, 0, 0, t.val % 3] :=
  (by decide +kernel : ∀ t : Fin grid1.N, _)

set_option maxHeartbeats 16000000 in
/-- The second region's result holds `second` of the arrays the region finds. -/
theorem final1 (c : Dev nD) : (dat1 (F := Ideal) V c).arrAt 11 cfg1.N
    = fun i => second (V c main_v58) (V c main_v2) (V c main_v3) (V c main_v14) (V c main_v24) (V c main_cst_4) (V c main_cst_5)
        (V c main_cst_6) (V c main_cst_7) (V c main_cst_8) (V c main_cst_9) (i 0) (i 1) (i 2) (i 3) := by
  refine (dat1 V c).arrAt_eq_of_covers 11 _ (by decide +kernel) fun t hf y => ?_
  blk_simp
  rw [after1_11]
  frame_out
  have ht : t.val < 6 := lt_of_lt_of_eq t.isLt N_1
  obtain ⟨s, hs⟩ : ∃ s : Fin 3 → Fin 96 → Fin 2048 → EReal, s = fun (ky : Fin 3) k (l : Fin 2048) =>
    (V c main_v58 : FVec Ideal S3x2x96x6144 .bf16) (ix4 ky ⟨t.val / 3, by omega⟩ k ⟨2048 * (t.val % 3) + l, by omega⟩) := ⟨_, rfl⟩
  obtain ⟨W, hW⟩ : ∃ W : Fin 96 → Fin 96 → Fin 3 → Fin 3 → EReal, W = fun o k (ky kx : Fin 3) =>
    (V c main_v2 : FVec Ideal S9x96x96 .bf16) (ix3 ⟨3 * ky + kx, by omega⟩ o k) := ⟨_, rfl⟩
  obtain ⟨b, hb⟩ : ∃ b : Fin 96 → EReal, b = fun o => (V c main_v3 : FVec Ideal S96x1 .f32) (ix2 o 0) := ⟨_, rfl⟩
  obtain ⟨R, hR⟩ : ∃ R : Fin 9 → Fin 4 → Fin 96 → EReal, R = fun a i k => (V c main_v14 : FVec Ideal S4x9x96 .bf16) (ix3 i a k) := ⟨_, rfl⟩
  obtain ⟨d, hd⟩ : ∃ d : Fin 9 → Fin 4 → EReal, d = fun a i => (V c main_v24 : FVec Ideal S4x9x1 .f32) (ix3 i a 0) := ⟨_, rfl⟩
  obtain ⟨ml, hml⟩ : ∃ ml : Fin 2048 → EReal, ml = fun (l : Fin 2048) =>
    (V c main_cst_4 : FVec Ideal S1x6144 .bf16) (ix2 0 ⟨2048 * (t.val % 3) + l, by omega⟩) := ⟨_, rfl⟩
  obtain ⟨mr, hmr⟩ : ∃ mr : Fin 2048 → EReal, mr = fun (l : Fin 2048) =>
    (V c main_cst_5 : FVec Ideal S1x6144 .bf16) (ix2 0 ⟨2048 * (t.val % 3) + l, by omega⟩) := ⟨_, rfl⟩
  obtain ⟨cx, hcx⟩ : ∃ cx : Fin 2048 → EReal, cx = fun (l : Fin 2048) =>
    (V c main_cst_6 : FVec Ideal S1x6144 .f32) (ix2 0 ⟨2048 * (t.val % 3) + l, by omega⟩) := ⟨_, rfl⟩
  obtain ⟨cy, hcy⟩ : ∃ cy : Fin 2048 → EReal, cy = fun (l : Fin 2048) =>
    (V c main_cst_7 : FVec Ideal S1x6144 .f32) (ix2 0 ⟨2048 * (t.val % 3) + l, by omega⟩) := ⟨_, rfl⟩
  obtain ⟨ww, hww⟩ : ∃ ww : Fin 9 → Fin 2048 → EReal, ww = fun a (l : Fin 2048) =>
    (V c main_cst_8 : FVec Ideal S9x6144 .f32) (ix2 a ⟨2048 * (t.val % 3) + l, by omega⟩) := ⟨_, rfl⟩
  obtain ⟨hh, hhh⟩ : ∃ hh : Fin 9 → Fin 2048 → EReal, hh = fun a (l : Fin 2048) =>
    (V c main_cst_9 : FVec Ideal S9x6144 .f32) (ix2 a ⟨2048 * (t.val % 3) + l, by omega⟩) := ⟨_, rfl⟩
  canon_tiles x h
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block1_3 (s := s) (W := W) (b := b) (R := R x2) (d := d x2) (ml := ml x3) (mr := mr x3) (w := ww x2 x3) (h := hh x2 x3)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk1, idx1 t]
    · subst hml; pointwise; blk_ext [iblk1, idx1 t]
    · subst hmr; pointwise; blk_ext [iblk1, idx1 t]
    iterate 9
      · intro o k; subst hW; pointwise; blk_ext [iblk1, idx1 t]
    · intro o; subst hb; pointwise; blk_ext [iblk1, idx1 t]
    · subst hhh; pointwise; blk_ext [iblk1, idx1 t]
    · subst hcy; pointwise; blk_ext [iblk1, idx1 t]
    iterate 2
      · intro k; subst hR; pointwise; blk_ext [iblk1, idx1 t]
      · subst hd; pointwise; blk_ext [iblk1, idx1 t]
    subst hs hW hb hR hd hml hmr hcx hcy hww hhh
    refine second_at (T := t.val % 3) _ _ _ _ _ _ _ _ _ _ _ (by omega) ?_ ?_ ?_ ?_
    all_goals blk_simp [idx1 t, h0, h1, h2, h3]
    all_goals first | rfl | omega | (simp; done) | (simp; omega)
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block1_2 (s := s) (W := W) (b := b) (R := R x2) (d := d x2) (ml := ml x3) (mr := mr x3) (w := ww x2 x3) (h := hh x2 x3)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk1, idx1 t]
    · subst hml; pointwise; blk_ext [iblk1, idx1 t]
    · subst hmr; pointwise; blk_ext [iblk1, idx1 t]
    iterate 9
      · intro o k; subst hW; pointwise; blk_ext [iblk1, idx1 t]
    · intro o; subst hb; pointwise; blk_ext [iblk1, idx1 t]
    · subst hww; pointwise; blk_ext [iblk1, idx1 t]
    · subst hcx; pointwise; blk_ext [iblk1, idx1 t]
    iterate 2
      · intro k; subst hR; pointwise; blk_ext [iblk1, idx1 t]
      · subst hd; pointwise; blk_ext [iblk1, idx1 t]
    subst hs hW hb hR hd hml hmr hcx hcy hww hhh
    refine second_at (T := t.val % 3) _ _ _ _ _ _ _ _ _ _ _ (by omega) ?_ ?_ ?_ ?_
    all_goals blk_simp [idx1 t, h0, h1, h2, h3]
    all_goals first | rfl | omega | (simp; done) | (simp; omega)
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block1_1 (s := s) (W := W) (b := b) (R := R x2) (d := d x2) (ml := ml x3) (mr := mr x3) (w := ww x2 x3) (h := hh x2 x3)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk1, idx1 t]
    · subst hml; pointwise; blk_ext [iblk1, idx1 t]
    · subst hmr; pointwise; blk_ext [iblk1, idx1 t]
    iterate 9
      · intro o k; subst hW; pointwise; blk_ext [iblk1, idx1 t]
    · intro o; subst hb; pointwise; blk_ext [iblk1, idx1 t]
    · subst hhh; pointwise; blk_ext [iblk1, idx1 t]
    · subst hcy; pointwise; blk_ext [iblk1, idx1 t]
    iterate 2
      · intro k; subst hR; pointwise; blk_ext [iblk1, idx1 t]
      · subst hd; pointwise; blk_ext [iblk1, idx1 t]
    subst hs hW hb hR hd hml hmr hcx hcy hww hhh
    refine second_at (T := t.val % 3) _ _ _ _ _ _ _ _ _ _ _ (by omega) ?_ ?_ ?_ ?_
    all_goals blk_simp [idx1 t, h0, h1, h2, h3]
    all_goals first | rfl | omega | (simp; done) | (simp; omega)
  · have hx2 : (x 2 : ℕ) < 9 := (x 2).isLt
    have hx3 : (x 3 : ℕ) < 2048 := (x 3).isLt
    idx_vars x
    obtain rfl : x0 = 0 := Subsingleton.elim _ _
    obtain rfl : x1 = 0 := Subsingleton.elim _ _
    refine (block1_0 (s := s) (W := W) (b := b) (R := R x2) (d := d x2) (ml := ml x3) (mr := mr x3) (w := ww x2 x3) (h := hh x2 x3)
      (x := cx x3) (y := cy x3) x2 x3 ?_ ?_ ?_ ?_ ?_ ?_ ?_ ?_ ?_ ?_ ?_ ?_ ?_ ?_ ?_ ?_ ?_ ?_ ?_ ?_ ?_).trans ?_
    all_goals clear hf
    iterate 3
      · intro k l; subst hs; pointwise; blk_ext [iblk1, idx1 t]
    · subst hml; pointwise; blk_ext [iblk1, idx1 t]
    · subst hmr; pointwise; blk_ext [iblk1, idx1 t]
    iterate 9
      · intro o k; subst hW; pointwise; blk_ext [iblk1, idx1 t]
    · intro o; subst hb; pointwise; blk_ext [iblk1, idx1 t]
    · subst hww; pointwise; blk_ext [iblk1, idx1 t]
    · subst hcx; pointwise; blk_ext [iblk1, idx1 t]
    iterate 2
      · intro k; subst hR; pointwise; blk_ext [iblk1, idx1 t]
      · subst hd; pointwise; blk_ext [iblk1, idx1 t]
    subst hs hW hb hR hd hml hmr hcx hcy hww hhh
    refine second_at (T := t.val % 3) _ _ _ _ _ _ _ _ _ _ _ (by omega) ?_ ?_ ?_ ?_
    all_goals blk_simp [idx1 t, h0, h1, h2, h3]
    all_goals first | rfl | omega | (simp; done) | (simp; omega)

end Cert.KernelIdeal.Value

end
-- ==== Proof.Result.lean ====
module

public import proofs.«01_k».proof.Proof.Boxes
public import proofs.«01_k».proof.Proof.Entry3
public import proofs.«01_k».proof.Proof.Exit
public import proofs.«01_k».proof.Proof.Region0
public import proofs.«01_k».proof.Proof.Region1

@[expose] public section

set_option maxRecDepth 16384

noncomputable section

/-! The kernel's result: the boxes of the five levels, of the launched arguments. -/

namespace Cert.KernelIdeal.Value

open Idealize.ShloMosaic Idealize.ShloMosaic.TcCoe Idealize.ShloMosaic.StableHlo Cert.KernelIdeal Cert.KernelIdeal.Gen

variable (m : (ℓ : Loc nD τ sig) → Buf (Elt Ideal) ℓ) (ρ : Dev nD → PrngReg) (c : Dev nD)

/-- The first kernel's array at the end. -/
theorem upper_end (b : Fin 2) (j : Fin 4) (n : ℕ) (p : Fin 16384) (hp : n / 9 = p) :
    (W19 m ρ c (Proc.devRef .tc main_v27) : FVec Ideal S2x4x9x16384 .bf16) (ix4 b j ⟨n % 9, by omega⟩ p)
      = box m c 0 (H := 128) (W := 128) (m ((c : Thread nD τ).loc main_arg0)) b n j := by
  have h : W19 m ρ c (Proc.devRef .tc main_v27) = (dat0 (F := Ideal) (V2 m ρ) c).arrAt 10 cfg0.N :=
    (W19_of m ρ c main_v27 (by decide +kernel)).trans ((keep_between m ρ c main_v27 (by decide +kernel)).trans (W3_arr m ρ c 10))
  exact (congrFun (h.trans (final0 (V2 m ρ) c)) _).trans (upper_box m ρ c b j n p hp)

/-- The second kernel's array at the end, on a level's lanes. -/
theorem lower_end (b : Fin 2) (j : Fin 4) (a : Fin 9) (p : Fin 6144) :
    (W19 m ρ c (Proc.devRef .tc main_v59) : FVec Ideal S2x4x9x6144 .bf16) (ix4 b j a p)
      = second (V18 m ρ c main_v58) (V18 m ρ c main_v2) (V18 m ρ c main_v3) (V18 m ρ c main_v14) (V18 m ρ c main_v24) (V18 m ρ c main_cst_4)
        (V18 m ρ c main_cst_5) (V18 m ρ c main_cst_6) (V18 m ρ c main_cst_7) (V18 m ρ c main_cst_8) (V18 m ρ c main_cst_9) b j a p := by
  have h : W19 m ρ c (Proc.devRef .tc main_v59) = (dat1 (F := Ideal) (V18 m ρ) c).arrAt 11 cfg1.N := W19_arr m ρ c 11
  exact congrFun (h.trans (final1 (V18 m ρ) c)) _

/-- Level 1's lanes are `0` to `4095`. -/
theorem end1 (b : Fin 2) (j : Fin 4) (n q : ℕ) (hq : n / 9 = q) (hn : q < 4096) (a : Fin 9) (ha : a = ⟨n % 9, by omega⟩) (p : Fin 6144)
    (hp : (p : ℕ) = q) :
    (W19 m ρ c (Proc.devRef .tc main_v59) : FVec Ideal S2x4x9x6144 .bf16) (ix4 b j a p)
      = box m c 1 (H := 64) (W := 64) (m ((c : Thread nD τ).loc main_arg1)) b n j := by
  have e : p = ⟨0 + q, by omega⟩ := Fin.ext (by simp only; omega)
  rw [e, ha]
  refine (lower_end m ρ c b j _ _).trans (lower_box m ρ c 1 0 64 64 _ (by decide) (by decide) (by decide) (by decide) (by decide) (by decide)
    (by decide) masks1 positions1 (fun a q hq => ?_) (fun a q hq => ?_) (fun ky b k q hq => ?_) b j n q hq hn)
  · exact widths_at 1 0 q a (by omega) (by unfold widthLevel; rw [if_pos (by omega)])
  · exact heights_at 1 0 q a (by omega) (by unfold heightLevel; rw [if_pos (by omega)])
  · unfold lane
    rw [W3_args m ρ c main_arg1 (by decide +kernel), if_pos (by omega), Nat.zero_add]

/-- Level 2's lanes are `4096` to `5119`. -/
theorem end2 (b : Fin 2) (j : Fin 4) (n q : ℕ) (hq : n / 9 = q) (hn : q < 1024) (a : Fin 9) (ha : a = ⟨n % 9, by omega⟩) (p : Fin 6144)
    (hp : (p : ℕ) = 4096 + q) :
    (W19 m ρ c (Proc.devRef .tc main_v59) : FVec Ideal S2x4x9x6144 .bf16) (ix4 b j a p)
      = box m c 2 (H := 32) (W := 32) (m ((c : Thread nD τ).loc main_arg2)) b n j := by
  have e : p = ⟨4096 + q, by omega⟩ := Fin.ext hp
  rw [e, ha]
  refine (lower_end m ρ c b j _ _).trans (lower_box m ρ c 2 4096 32 32 _ (by decide) (by decide) (by decide) (by decide) (by decide) (by decide)
    (by decide) masks2 positions2 (fun a q hq => ?_) (fun a q hq => ?_) (fun ky b k q hq => ?_) b j n q hq hn)
  · exact widths_at 2 4096 q a (by omega) (by unfold widthLevel; rw [if_neg (by omega), if_pos (by omega)])
  · exact heights_at 2 4096 q a (by omega) (by unfold heightLevel; rw [if_neg (by omega), if_pos (by omega)])
  · unfold lane
    rw [W3_args m ρ c main_arg2 (by decide +kernel), if_neg (by omega), if_pos (by omega), Nat.add_sub_cancel_left]

/-- Level 3's lanes are `5120` to `5375`. -/
theorem end3 (b : Fin 2) (j : Fin 4) (n q : ℕ) (hq : n / 9 = q) (hn : q < 256) (a : Fin 9) (ha : a = ⟨n % 9, by omega⟩) (p : Fin 6144)
    (hp : (p : ℕ) = 5120 + q) :
    (W19 m ρ c (Proc.devRef .tc main_v59) : FVec Ideal S2x4x9x6144 .bf16) (ix4 b j a p)
      = box m c 3 (H := 16) (W := 16) (m ((c : Thread nD τ).loc main_arg3)) b n j := by
  have e : p = ⟨5120 + q, by omega⟩ := Fin.ext hp
  rw [e, ha]
  refine (lower_end m ρ c b j _ _).trans (lower_box m ρ c 3 5120 16 16 _ (by decide) (by decide) (by decide) (by decide) (by decide) (by decide)
    (by decide) masks3 positions3 (fun a q hq => ?_) (fun a q hq => ?_) (fun ky b k q hq => ?_) b j n q hq hn)
  · exact widths_at 3 5120 q a (by omega) (by unfold widthLevel; rw [if_neg (by omega), if_neg (by omega)])
  · exact heights_at 3 5120 q a (by omega) (by unfold heightLevel; rw [if_neg (by omega), if_neg (by omega)])
  · unfold lane
    rw [W3_args m ρ c main_arg3 (by decide +kernel), if_neg (by omega), if_neg (by omega), if_pos (by omega), Nat.add_sub_cancel_left]

/-- Level 4's lanes are `5376` to `5439`. -/
theorem end4 (b : Fin 2) (j : Fin 4) (n q : ℕ) (hq : n / 9 = q) (hn : q < 64) (a : Fin 9) (ha : a = ⟨n % 9, by omega⟩) (p : Fin 6144)
    (hp : (p : ℕ) = 5376 + q) :
    (W19 m ρ c (Proc.devRef .tc main_v59) : FVec Ideal S2x4x9x6144 .bf16) (ix4 b j a p)
      = box m c 4 (H := 8) (W := 8) (m ((c : Thread nD τ).loc main_arg4)) b n j := by
  have e : p = ⟨5376 + q, by omega⟩ := Fin.ext hp
  rw [e, ha]
  refine (lower_end m ρ c b j _ _).trans (lower_box m ρ c 4 5376 8 8 _ (by decide) (by decide) (by decide) (by decide) (by decide) (by decide)
    (by decide) masks4 positions4 (fun a q hq => width_last a ⟨q, hq⟩) (fun a q hq => height_last a ⟨q, hq⟩) (fun ky b k q hq => ?_) b j n q hq hn)
  unfold lane
  rw [W3_args m ρ c main_arg4 (by decide +kernel), if_neg (by omega), if_neg (by omega), if_neg (by omega), Nat.add_sub_cancel_left]

/-- The kernel's result. -/
theorem result_at (b : Fin 2) (n : Fin 196416) (j : Fin 4) :
    (W20 m ρ c (Proc.devRef .tc main_v67) : FVec Ideal S2x196416x4 .f32) (ix3 b n j)
      = Spec.boxes (m ((c : Thread nD τ).loc main_arg5)) (m ((c : Thread nD τ).loc main_arg6)) (m ((c : Thread nD τ).loc main_arg9))
          (m ((c : Thread nD τ).loc main_arg10)) (m ((c : Thread nD τ).loc main_arg0)) (m ((c : Thread nD τ).loc main_arg1))
          (m ((c : Thread nD τ).loc main_arg2)) (m ((c : Thread nD τ).loc main_arg3)) (m ((c : Thread nD τ).loc main_arg4)) b n j := by
  refine (exit_at (W19 m ρ c) b n j).trans ?_
  have hn := n.isLt
  rw [Spec.boxes]
  by_cases h0 : (n : ℕ) < 147456
  · rw [dif_pos h0, if_pos h0]
    exact upper_end m ρ c b j n _ rfl
  rw [dif_neg h0, if_neg h0]
  by_cases h1 : (n : ℕ) < 184320
  · rw [if_pos h1]
    exact end1 m ρ c b j _ _ rfl (by omega) _ rfl _ rfl
  rw [if_neg h1]
  by_cases h2 : (n : ℕ) < 193536
  · rw [if_pos h2]
    exact end2 m ρ c b j _ _ rfl (by omega) _ (Fin.ext (by simp only; omega)) _ (by simp only; omega)
  rw [if_neg h2]
  by_cases h3 : (n : ℕ) < 195840
  · rw [if_pos h3]
    exact end3 m ρ c b j _ _ rfl (by omega) _ (Fin.ext (by simp only; omega)) _ (by simp only; omega)
  rw [if_neg h3]
  exact end4 m ρ c b j _ _ rfl (by omega) _ (Fin.ext (by simp only; omega)) _ (by simp only; omega)

end Cert.KernelIdeal.Value

end
-- ==== Proof.Algebraic.lean ====
module

public import proofs.«01_k».proof.Defs
public import proofs.«01_k».proof.Proof.KernelRun
public import proofs.«01_k».proof.Proof.RefResult
public import proofs.«01_k».proof.Proof.Result

@[expose] public section

set_option maxRecDepth 16384

noncomputable section

/-! The kernel and the reference end with equal results. -/

namespace Cert.Proof

open Idealize.ShloMosaic Idealize.ShloMosaic.TcCoe Idealize.SL.Sem

/-- From memories agreeing on the arguments the two results are equal. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10)) :
    (Cert.ReferenceIdeal.Value.res_main_v760 (StableHlo.launchContents m' c) : FVec Ideal ⟨3, ![2, 196416, 4]⟩ .f32)
      = (Cert.KernelIdeal.Gen.W20 m ρ c (Proc.devRef .tc Cert.KernelIdeal.main_v67) : FVec Ideal ⟨3, ![2, 196416, 4]⟩ .f32) := by
  funext i
  rw [eq_ix3 i]
  refine (Cert.ReferenceIdeal.Value.result_at _ (i 0) (i 1) (i 2)).trans (Eq.trans ?_ (Cert.KernelIdeal.Value.result_at m ρ c (i 0) (i 1) (i 2)).symm)
  rw [← h0, ← h1, ← h2, ← h3, ← h4, ← h5, ← h6, ← h9, ← h10]
  rfl

/-- The kernel and the reference, from memories agreeing on the arguments, both run and end with equal results and unchanged arguments. -/
theorem algebraic : Cert.algebraic_KernelIdeal_ReferenceIdeal := by
  intro m g m' g' _ hagree
  refine ⟨fun c => Cert.KernelIdeal.Gen.W20 m g c (Proc.devRef .tc Cert.KernelIdeal.main_v67), ?_, ?_⟩
  · exact (θ_run Cert.KernelIdeal.defs _ _).mono
      (fun r h c => ⟨h c _ (Cert.KernelIdeal.Gen.mem_uc Cert.KernelIdeal.main_v67 (by decide)),
        (h c _ (Cert.KernelIdeal.Gen.mem_uc Cert.KernelIdeal.main_arg0 (by decide))).trans (Cert.KernelIdeal.Gen.W20_main_arg0 m g c),
        (h c _ (Cert.KernelIdeal.Gen.mem_uc Cert.KernelIdeal.main_arg1 (by decide))).trans (Cert.KernelIdeal.Gen.W20_main_arg1 m g c),
        (h c _ (Cert.KernelIdeal.Gen.mem_uc Cert.KernelIdeal.main_arg2 (by decide))).trans (Cert.KernelIdeal.Gen.W20_main_arg2 m g c),
        (h c _ (Cert.KernelIdeal.Gen.mem_uc Cert.KernelIdeal.main_arg3 (by decide))).trans (Cert.KernelIdeal.Gen.W20_main_arg3 m g c),
        (h c _ (Cert.KernelIdeal.Gen.mem_uc Cert.KernelIdeal.main_arg4 (by decide))).trans (Cert.KernelIdeal.Gen.W20_main_arg4 m g c),
        (h c _ (Cert.KernelIdeal.Gen.mem_uc Cert.KernelIdeal.main_arg5 (by decide))).trans (Cert.KernelIdeal.Gen.W20_main_arg5 m g c),
        (h c _ (Cert.KernelIdeal.Gen.mem_uc Cert.KernelIdeal.main_arg6 (by decide))).trans (Cert.KernelIdeal.Gen.W20_main_arg6 m g c),
        (h c _ (Cert.KernelIdeal.Gen.mem_uc Cert.KernelIdeal.main_arg7 (by decide))).trans (Cert.KernelIdeal.Gen.W20_main_arg7 m g c),
        (h c _ (Cert.KernelIdeal.Gen.mem_uc Cert.KernelIdeal.main_arg8 (by decide))).trans (Cert.KernelIdeal.Gen.W20_main_arg8 m g c),
        (h c _ (Cert.KernelIdeal.Gen.mem_uc Cert.KernelIdeal.main_arg9 (by decide))).trans (Cert.KernelIdeal.Gen.W20_main_arg9 m g c),
        (h c _ (Cert.KernelIdeal.Gen.mem_uc Cert.KernelIdeal.main_arg10 (by decide))).trans (Cert.KernelIdeal.Gen.W20_main_arg10 m g c)⟩)
      (Cert.KernelIdeal.Value.run (F := Ideal) m g)
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, -, -, h9, h10⟩ := hagree c
    exact results_eq m g m' c h0 h1 h2 h3 h4 h5 h6 h9 h10

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Algebraic

@[expose] public section

noncomputable section

namespace Cert.Proof

open Idealize.ShloMosaic Idealize.SL.Sem

/-- The reference runs and leaves its arguments unchanged. -/
theorem reference_frame : Cert.quiescent_ReferenceIdeal := by
  intro m g _
  exact (θ_run Cert.ReferenceIdeal.defs _ _).mono (fun r h => ⟨fun c => (h c).2,
    sem_eq_zero_of_no_sems (by decide) r.2⟩) (Cert.ReferenceIdeal.Value.run (F := Ideal) m g)

/-- The claim: the frames, the idealization, and the equality of the results over the extended reals. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    reference_frame, trivial, algebraic⟩

end Cert.Proof

end
